-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024 : Shape := ⟨1, ![1024]⟩
abbrev S2x1024 : Shape := ⟨2, ![2, 1024]⟩
abbrev S16x2x1024 : Shape := ⟨3, ![16, 2, 1024]⟩
abbrev S16 : Shape := ⟨1, ![16]⟩
abbrev S1024x1 : Shape := ⟨2, ![1024, 1]⟩
abbrev S1x1024 : Shape := ⟨2, ![1, 1024]⟩
abbrev S1x2x1024 : Shape := ⟨3, ![1, 2, 1024]⟩
abbrev S_ : Shape := ⟨0, ![]⟩
abbrev S1 : Shape := ⟨1, ![1]⟩

abbrev nBuf : Space → Nat
  | .hbm => 4
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024, .f32⟩
  | .hbm, ⟨3, _⟩ => ⟨S2x1024, .f32⟩
  | .local _ .vmem, ⟨0, _⟩ => ⟨S1024x1024, .f32⟩
  | .local _ .vmem, ⟨1, _⟩ => ⟨S1024x1024, .f32⟩
  | .local _ .vmem, ⟨2, _⟩ => ⟨S2x1024, .f32⟩
  | .local _ .vmem, ⟨3, _⟩ => ⟨S16x2x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => false
  | ⟨1, _⟩ => true
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 2 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v30 : Index := Scalar.indexCast v2
  let c0_9 : Index := 0#32
  let c0_10 : Index := 0#32
  ![v30.toNat, 0, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v35 : BitVec 1 := Scalar.cmpi .ne v2 c0_i32
  let v36 : BitVec 32 := Scalar.extui v35
  let c0_i32_11 : BitVec 32 := 0#32
  let v37 : BitVec 1 := Scalar.cmpi .ne v36 c0_i32_11
  v37

def k0_dev1 : Nat :=
  let c0_i32_102 : BitVec 32 := 0#32
  let c0_i32_100 : BitVec 32 := 0#32
  let c1_i32_101 : BitVec 32 := 1#32
  let v182 : BitVec 32 := Scalar.muli c0_i32_100 c1_i32_101
  let v183 : BitVec 32 := Scalar.addi c0_i32_102 v182
  v183.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v38 : BitVec 1 := Scalar.cmpi .ne v2 c1_i32_12
  let v39 : BitVec 32 := Scalar.extui v38
  let c0_i32_13 : BitVec 32 := 0#32
  let v40 : BitVec 1 := Scalar.cmpi .ne v39 c0_i32_13
  v40

def k0_dev2 : Nat :=
  let c0_i32_102 : BitVec 32 := 0#32
  let c1_i32_100 : BitVec 32 := 1#32
  let c1_i32_101 : BitVec 32 := 1#32
  let v182 : BitVec 32 := Scalar.muli c1_i32_100 c1_i32_101
  let v183 : BitVec 32 := Scalar.addi c0_i32_102 v182
  v183.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v41 : BitVec 1 := Scalar.cmpi .ne v2 c2_i32
  let v42 : BitVec 32 := Scalar.extui v41
  let c0_i32_14 : BitVec 32 := 0#32
  let v43 : BitVec 1 := Scalar.cmpi .ne v42 c0_i32_14
  v43

def k0_dev3 : Nat :=
  let c0_i32_102 : BitVec 32 := 0#32
  let c2_i32_100 : BitVec 32 := 2#32
  let c1_i32_101 : BitVec 32 := 1#32
  let v182 : BitVec 32 := Scalar.muli c2_i32_100 c1_i32_101
  let v183 : BitVec 32 := Scalar.addi c0_i32_102 v182
  v183.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v44 : BitVec 1 := Scalar.cmpi .ne v2 c3_i32
  let v45 : BitVec 32 := Scalar.extui v44
  let c0_i32_15 : BitVec 32 := 0#32
  let v46 : BitVec 1 := Scalar.cmpi .ne v45 c0_i32_15
  v46

def k0_dev4 : Nat :=
  let c0_i32_102 : BitVec 32 := 0#32
  let c3_i32_100 : BitVec 32 := 3#32
  let c1_i32_101 : BitVec 32 := 1#32
  let v182 : BitVec 32 := Scalar.muli c3_i32_100 c1_i32_101
  let v183 : BitVec 32 := Scalar.addi c0_i32_102 v182
  v183.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v47 : BitVec 1 := Scalar.cmpi .ne v2 c4_i32
  let v48 : BitVec 32 := Scalar.extui v47
  let c0_i32_16 : BitVec 32 := 0#32
  let v49 : BitVec 1 := Scalar.cmpi .ne v48 c0_i32_16
  v49

def k0_dev5 : Nat :=
  let c0_i32_102 : BitVec 32 := 0#32
  let c4_i32_100 : BitVec 32 := 4#32
  let c1_i32_101 : BitVec 32 := 1#32
  let v182 : BitVec 32 := Scalar.muli c4_i32_100 c1_i32_101
  let v183 : BitVec 32 := Scalar.addi c0_i32_102 v182
  v183.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v50 : BitVec 1 := Scalar.cmpi .ne v2 c5_i32
  let v51 : BitVec 32 := Scalar.extui v50
  let c0_i32_17 : BitVec 32 := 0#32
  let v52 : BitVec 1 := Scalar.cmpi .ne v51 c0_i32_17
  v52

def k0_dev6 : Nat :=
  let c0_i32_102 : BitVec 32 := 0#32
  let c5_i32_100 : BitVec 32 := 5#32
  let c1_i32_101 : BitVec 32 := 1#32
  let v182 : BitVec 32 := Scalar.muli c5_i32_100 c1_i32_101
  let v183 : BitVec 32 := Scalar.addi c0_i32_102 v182
  v183.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v53 : BitVec 1 := Scalar.cmpi .ne v2 c6_i32
  let v54 : BitVec 32 := Scalar.extui v53
  let c0_i32_18 : BitVec 32 := 0#32
  let v55 : BitVec 1 := Scalar.cmpi .ne v54 c0_i32_18
  v55

def k0_dev7 : Nat :=
  let c0_i32_102 : BitVec 32 := 0#32
  let c6_i32_100 : BitVec 32 := 6#32
  let c1_i32_101 : BitVec 32 := 1#32
  let v182 : BitVec 32 := Scalar.muli c6_i32_100 c1_i32_101
  let v183 : BitVec 32 := Scalar.addi c0_i32_102 v182
  v183.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v56 : BitVec 1 := Scalar.cmpi .ne v2 c7_i32
  let v57 : BitVec 32 := Scalar.extui v56
  let c0_i32_19 : BitVec 32 := 0#32
  let v58 : BitVec 1 := Scalar.cmpi .ne v57 c0_i32_19
  v58

def k0_dev8 : Nat :=
  let c0_i32_102 : BitVec 32 := 0#32
  let c7_i32_100 : BitVec 32 := 7#32
  let c1_i32_101 : BitVec 32 := 1#32
  let v182 : BitVec 32 := Scalar.muli c7_i32_100 c1_i32_101
  let v183 : BitVec 32 := Scalar.addi c0_i32_102 v182
  v183.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v59 : BitVec 1 := Scalar.cmpi .ne v2 c8_i32
  let v60 : BitVec 32 := Scalar.extui v59
  let c0_i32_20 : BitVec 32 := 0#32
  let v61 : BitVec 1 := Scalar.cmpi .ne v60 c0_i32_20
  v61

def k0_dev9 : Nat :=
  let c0_i32_102 : BitVec 32 := 0#32
  let c8_i32_100 : BitVec 32 := 8#32
  let c1_i32_101 : BitVec 32 := 1#32
  let v182 : BitVec 32 := Scalar.muli c8_i32_100 c1_i32_101
  let v183 : BitVec 32 := Scalar.addi c0_i32_102 v182
  v183.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v62 : BitVec 1 := Scalar.cmpi .ne v2 c9_i32
  let v63 : BitVec 32 := Scalar.extui v62
  let c0_i32_21 : BitVec 32 := 0#32
  let v64 : BitVec 1 := Scalar.cmpi .ne v63 c0_i32_21
  v64

def k0_dev10 : Nat :=
  let c0_i32_102 : BitVec 32 := 0#32
  let c9_i32_100 : BitVec 32 := 9#32
  let c1_i32_101 : BitVec 32 := 1#32
  let v182 : BitVec 32 := Scalar.muli c9_i32_100 c1_i32_101
  let v183 : BitVec 32 := Scalar.addi c0_i32_102 v182
  v183.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v65 : BitVec 1 := Scalar.cmpi .ne v2 c10_i32
  let v66 : BitVec 32 := Scalar.extui v65
  let c0_i32_22 : BitVec 32 := 0#32
  let v67 : BitVec 1 := Scalar.cmpi .ne v66 c0_i32_22
  v67

def k0_dev11 : Nat :=
  let c0_i32_102 : BitVec 32 := 0#32
  let c10_i32_100 : BitVec 32 := 10#32
  let c1_i32_101 : BitVec 32 := 1#32
  let v182 : BitVec 32 := Scalar.muli c10_i32_100 c1_i32_101
  let v183 : BitVec 32 := Scalar.addi c0_i32_102 v182
  v183.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v68 : BitVec 1 := Scalar.cmpi .ne v2 c11_i32
  let v69 : BitVec 32 := Scalar.extui v68
  let c0_i32_23 : BitVec 32 := 0#32
  let v70 : BitVec 1 := Scalar.cmpi .ne v69 c0_i32_23
  v70

def k0_dev12 : Nat :=
  let c0_i32_102 : BitVec 32 := 0#32
  let c11_i32_100 : BitVec 32 := 11#32
  let c1_i32_101 : BitVec 32 := 1#32
  let v182 : BitVec 32 := Scalar.muli c11_i32_100 c1_i32_101
  let v183 : BitVec 32 := Scalar.addi c0_i32_102 v182
  v183.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v71 : BitVec 1 := Scalar.cmpi .ne v2 c12_i32
  let v72 : BitVec 32 := Scalar.extui v71
  let c0_i32_24 : BitVec 32 := 0#32
  let v73 : BitVec 1 := Scalar.cmpi .ne v72 c0_i32_24
  v73

def k0_dev13 : Nat :=
  let c0_i32_102 : BitVec 32 := 0#32
  let c12_i32_100 : BitVec 32 := 12#32
  let c1_i32_101 : BitVec 32 := 1#32
  let v182 : BitVec 32 := Scalar.muli c12_i32_100 c1_i32_101
  let v183 : BitVec 32 := Scalar.addi c0_i32_102 v182
  v183.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v74 : BitVec 1 := Scalar.cmpi .ne v2 c13_i32
  let v75 : BitVec 32 := Scalar.extui v74
  let c0_i32_25 : BitVec 32 := 0#32
  let v76 : BitVec 1 := Scalar.cmpi .ne v75 c0_i32_25
  v76

def k0_dev14 : Nat :=
  let c0_i32_102 : BitVec 32 := 0#32
  let c13_i32_100 : BitVec 32 := 13#32
  let c1_i32_101 : BitVec 32 := 1#32
  let v182 : BitVec 32 := Scalar.muli c13_i32_100 c1_i32_101
  let v183 : BitVec 32 := Scalar.addi c0_i32_102 v182
  v183.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v77 : BitVec 1 := Scalar.cmpi .ne v2 c14_i32
  let v78 : BitVec 32 := Scalar.extui v77
  let c0_i32_26 : BitVec 32 := 0#32
  let v79 : BitVec 1 := Scalar.cmpi .ne v78 c0_i32_26
  v79

def k0_dev15 : Nat :=
  let c0_i32_102 : BitVec 32 := 0#32
  let c14_i32_100 : BitVec 32 := 14#32
  let c1_i32_101 : BitVec 32 := 1#32
  let v182 : BitVec 32 := Scalar.muli c14_i32_100 c1_i32_101
  let v183 : BitVec 32 := Scalar.addi c0_i32_102 v182
  v183.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v80 : BitVec 1 := Scalar.cmpi .ne v2 c15_i32
  let v81 : BitVec 32 := Scalar.extui v80
  let c0_i32_27 : BitVec 32 := 0#32
  let v82 : BitVec 1 := Scalar.cmpi .ne v81 c0_i32_27
  v82

def k0_dev16 : Nat :=
  let c0_i32_102 : BitVec 32 := 0#32
  let c15_i32_100 : BitVec 32 := 15#32
  let c1_i32_101 : BitVec 32 := 1#32
  let v182 : BitVec 32 := Scalar.muli c15_i32_100 c1_i32_101
  let v183 : BitVec 32 := Scalar.addi c0_i32_102 v182
  v183.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_29 : BitVec 32 := 0#32
  let v83 : BitVec 1 := Scalar.cmpi .ne v2 c0_i32_29
  let v84 : BitVec 32 := Scalar.extui v83
  let c0_i32_30 : BitVec 32 := 0#32
  let v85 : BitVec 1 := Scalar.cmpi .ne v84 c0_i32_30
  v85

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev17 : Nat :=
  let c0_i32_102 : BitVec 32 := 0#32
  let c0_i32_100 : BitVec 32 := 0#32
  let c1_i32_101 : BitVec 32 := 1#32
  let v182 : BitVec 32 := Scalar.muli c0_i32_100 c1_i32_101
  let v183 : BitVec 32 := Scalar.addi c0_i32_102 v182
  v183.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_31 : BitVec 32 := 1#32
  let v86 : BitVec 1 := Scalar.cmpi .ne v2 c1_i32_31
  let v87 : BitVec 32 := Scalar.extui v86
  let c0_i32_32 : BitVec 32 := 0#32
  let v88 : BitVec 1 := Scalar.cmpi .ne v87 c0_i32_32
  v88

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev18 : Nat :=
  let c0_i32_102 : BitVec 32 := 0#32
  let c1_i32_100 : BitVec 32 := 1#32
  let c1_i32_101 : BitVec 32 := 1#32
  let v182 : BitVec 32 := Scalar.muli c1_i32_100 c1_i32_101
  let v183 : BitVec 32 := Scalar.addi c0_i32_102 v182
  v183.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_33 : BitVec 32 := 2#32
  let v89 : BitVec 1 := Scalar.cmpi .ne v2 c2_i32_33
  let v90 : BitVec 32 := Scalar.extui v89
  let c0_i32_34 : BitVec 32 := 0#32
  let v91 : BitVec 1 := Scalar.cmpi .ne v90 c0_i32_34
  v91

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev19 : Nat :=
  let c0_i32_102 : BitVec 32 := 0#32
  let c2_i32_100 : BitVec 32 := 2#32
  let c1_i32_101 : BitVec 32 := 1#32
  let v182 : BitVec 32 := Scalar.muli c2_i32_100 c1_i32_101
  let v183 : BitVec 32 := Scalar.addi c0_i32_102 v182
  v183.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_35 : BitVec 32 := 3#32
  let v92 : BitVec 1 := Scalar.cmpi .ne v2 c3_i32_35
  let v93 : BitVec 32 := Scalar.extui v92
  let c0_i32_36 : BitVec 32 := 0#32
  let v94 : BitVec 1 := Scalar.cmpi .ne v93 c0_i32_36
  v94

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev20 : Nat :=
  let c0_i32_102 : BitVec 32 := 0#32
  let c3_i32_100 : BitVec 32 := 3#32
  let c1_i32_101 : BitVec 32 := 1#32
  let v182 : BitVec 32 := Scalar.muli c3_i32_100 c1_i32_101
  let v183 : BitVec 32 := Scalar.addi c0_i32_102 v182
  v183.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_37 : BitVec 32 := 4#32
  let v95 : BitVec 1 := Scalar.cmpi .ne v2 c4_i32_37
  let v96 : BitVec 32 := Scalar.extui v95
  let c0_i32_38 : BitVec 32 := 0#32
  let v97 : BitVec 1 := Scalar.cmpi .ne v96 c0_i32_38
  v97

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev21 : Nat :=
  let c0_i32_102 : BitVec 32 := 0#32
  let c4_i32_100 : BitVec 32 := 4#32
  let c1_i32_101 : BitVec 32 := 1#32
  let v182 : BitVec 32 := Scalar.muli c4_i32_100 c1_i32_101
  let v183 : BitVec 32 := Scalar.addi c0_i32_102 v182
  v183.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_39 : BitVec 32 := 5#32
  let v98 : BitVec 1 := Scalar.cmpi .ne v2 c5_i32_39
  let v99 : BitVec 32 := Scalar.extui v98
  let c0_i32_40 : BitVec 32 := 0#32
  let v100 : BitVec 1 := Scalar.cmpi .ne v99 c0_i32_40
  v100

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev22 : Nat :=
  let c0_i32_102 : BitVec 32 := 0#32
  let c5_i32_100 : BitVec 32 := 5#32
  let c1_i32_101 : BitVec 32 := 1#32
  let v182 : BitVec 32 := Scalar.muli c5_i32_100 c1_i32_101
  let v183 : BitVec 32 := Scalar.addi c0_i32_102 v182
  v183.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_41 : BitVec 32 := 6#32
  let v101 : BitVec 1 := Scalar.cmpi .ne v2 c6_i32_41
  let v102 : BitVec 32 := Scalar.extui v101
  let c0_i32_42 : BitVec 32 := 0#32
  let v103 : BitVec 1 := Scalar.cmpi .ne v102 c0_i32_42
  v103

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev23 : Nat :=
  let c0_i32_102 : BitVec 32 := 0#32
  let c6_i32_100 : BitVec 32 := 6#32
  let c1_i32_101 : BitVec 32 := 1#32
  let v182 : BitVec 32 := Scalar.muli c6_i32_100 c1_i32_101
  let v183 : BitVec 32 := Scalar.addi c0_i32_102 v182
  v183.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_43 : BitVec 32 := 7#32
  let v104 : BitVec 1 := Scalar.cmpi .ne v2 c7_i32_43
  let v105 : BitVec 32 := Scalar.extui v104
  let c0_i32_44 : BitVec 32 := 0#32
  let v106 : BitVec 1 := Scalar.cmpi .ne v105 c0_i32_44
  v106

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev24 : Nat :=
  let c0_i32_102 : BitVec 32 := 0#32
  let c7_i32_100 : BitVec 32 := 7#32
  let c1_i32_101 : BitVec 32 := 1#32
  let v182 : BitVec 32 := Scalar.muli c7_i32_100 c1_i32_101
  let v183 : BitVec 32 := Scalar.addi c0_i32_102 v182
  v183.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_45 : BitVec 32 := 8#32
  let v107 : BitVec 1 := Scalar.cmpi .ne v2 c8_i32_45
  let v108 : BitVec 32 := Scalar.extui v107
  let c0_i32_46 : BitVec 32 := 0#32
  let v109 : BitVec 1 := Scalar.cmpi .ne v108 c0_i32_46
  v109

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev25 : Nat :=
  let c0_i32_102 : BitVec 32 := 0#32
  let c8_i32_100 : BitVec 32 := 8#32
  let c1_i32_101 : BitVec 32 := 1#32
  let v182 : BitVec 32 := Scalar.muli c8_i32_100 c1_i32_101
  let v183 : BitVec 32 := Scalar.addi c0_i32_102 v182
  v183.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_47 : BitVec 32 := 9#32
  let v110 : BitVec 1 := Scalar.cmpi .ne v2 c9_i32_47
  let v111 : BitVec 32 := Scalar.extui v110
  let c0_i32_48 : BitVec 32 := 0#32
  let v112 : BitVec 1 := Scalar.cmpi .ne v111 c0_i32_48
  v112

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev26 : Nat :=
  let c0_i32_102 : BitVec 32 := 0#32
  let c9_i32_100 : BitVec 32 := 9#32
  let c1_i32_101 : BitVec 32 := 1#32
  let v182 : BitVec 32 := Scalar.muli c9_i32_100 c1_i32_101
  let v183 : BitVec 32 := Scalar.addi c0_i32_102 v182
  v183.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_49 : BitVec 32 := 10#32
  let v113 : BitVec 1 := Scalar.cmpi .ne v2 c10_i32_49
  let v114 : BitVec 32 := Scalar.extui v113
  let c0_i32_50 : BitVec 32 := 0#32
  let v115 : BitVec 1 := Scalar.cmpi .ne v114 c0_i32_50
  v115

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev27 : Nat :=
  let c0_i32_102 : BitVec 32 := 0#32
  let c10_i32_100 : BitVec 32 := 10#32
  let c1_i32_101 : BitVec 32 := 1#32
  let v182 : BitVec 32 := Scalar.muli c10_i32_100 c1_i32_101
  let v183 : BitVec 32 := Scalar.addi c0_i32_102 v182
  v183.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_51 : BitVec 32 := 11#32
  let v116 : BitVec 1 := Scalar.cmpi .ne v2 c11_i32_51
  let v117 : BitVec 32 := Scalar.extui v116
  let c0_i32_52 : BitVec 32 := 0#32
  let v118 : BitVec 1 := Scalar.cmpi .ne v117 c0_i32_52
  v118

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev28 : Nat :=
  let c0_i32_102 : BitVec 32 := 0#32
  let c11_i32_100 : BitVec 32 := 11#32
  let c1_i32_101 : BitVec 32 := 1#32
  let v182 : BitVec 32 := Scalar.muli c11_i32_100 c1_i32_101
  let v183 : BitVec 32 := Scalar.addi c0_i32_102 v182
  v183.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_53 : BitVec 32 := 12#32
  let v119 : BitVec 1 := Scalar.cmpi .ne v2 c12_i32_53
  let v120 : BitVec 32 := Scalar.extui v119
  let c0_i32_54 : BitVec 32 := 0#32
  let v121 : BitVec 1 := Scalar.cmpi .ne v120 c0_i32_54
  v121

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev29 : Nat :=
  let c0_i32_102 : BitVec 32 := 0#32
  let c12_i32_100 : BitVec 32 := 12#32
  let c1_i32_101 : BitVec 32 := 1#32
  let v182 : BitVec 32 := Scalar.muli c12_i32_100 c1_i32_101
  let v183 : BitVec 32 := Scalar.addi c0_i32_102 v182
  v183.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_55 : BitVec 32 := 13#32
  let v122 : BitVec 1 := Scalar.cmpi .ne v2 c13_i32_55
  let v123 : BitVec 32 := Scalar.extui v122
  let c0_i32_56 : BitVec 32 := 0#32
  let v124 : BitVec 1 := Scalar.cmpi .ne v123 c0_i32_56
  v124

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev30 : Nat :=
  let c0_i32_102 : BitVec 32 := 0#32
  let c13_i32_100 : BitVec 32 := 13#32
  let c1_i32_101 : BitVec 32 := 1#32
  let v182 : BitVec 32 := Scalar.muli c13_i32_100 c1_i32_101
  let v183 : BitVec 32 := Scalar.addi c0_i32_102 v182
  v183.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_57 : BitVec 32 := 14#32
  let v125 : BitVec 1 := Scalar.cmpi .ne v2 c14_i32_57
  let v126 : BitVec 32 := Scalar.extui v125
  let c0_i32_58 : BitVec 32 := 0#32
  let v127 : BitVec 1 := Scalar.cmpi .ne v126 c0_i32_58
  v127

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev31 : Nat :=
  let c0_i32_102 : BitVec 32 := 0#32
  let c14_i32_100 : BitVec 32 := 14#32
  let c1_i32_101 : BitVec 32 := 1#32
  let v182 : BitVec 32 := Scalar.muli c14_i32_100 c1_i32_101
  let v183 : BitVec 32 := Scalar.addi c0_i32_102 v182
  v183.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_59 : BitVec 32 := 15#32
  let v128 : BitVec 1 := Scalar.cmpi .ne v2 c15_i32_59
  let v129 : BitVec 32 := Scalar.extui v128
  let c0_i32_60 : BitVec 32 := 0#32
  let v130 : BitVec 1 := Scalar.cmpi .ne v129 c0_i32_60
  v130

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let c0_i32_104 : BitVec 32 := 0#32
  ![v2.toNat, 0, 0]
def k0_dev32 : Nat :=
  let c0_i32_102 : BitVec 32 := 0#32
  let c15_i32_100 : BitVec 32 := 15#32
  let c1_i32_101 : BitVec 32 := 1#32
  let v182 : BitVec 32 := Scalar.muli c15_i32_100 c1_i32_101
  let v183 : BitVec 32 := Scalar.addi c0_i32_102 v182
  v183.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_61 : BitVec 32 := 0#32
  let v131 : BitVec 1 := Scalar.cmpi .ne v2 c0_i32_61
  let v132 : BitVec 32 := Scalar.extui v131
  let c0_i32_62 : BitVec 32 := 0#32
  let v133 : BitVec 1 := Scalar.cmpi .ne v132 c0_i32_62
  v133

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_63 : BitVec 32 := 1#32
  let v134 : BitVec 1 := Scalar.cmpi .ne v2 c1_i32_63
  let v135 : BitVec 32 := Scalar.extui v134
  let c0_i32_64 : BitVec 32 := 0#32
  let v136 : BitVec 1 := Scalar.cmpi .ne v135 c0_i32_64
  v136

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_65 : BitVec 32 := 2#32
  let v137 : BitVec 1 := Scalar.cmpi .ne v2 c2_i32_65
  let v138 : BitVec 32 := Scalar.extui v137
  let c0_i32_66 : BitVec 32 := 0#32
  let v139 : BitVec 1 := Scalar.cmpi .ne v138 c0_i32_66
  v139

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_67 : BitVec 32 := 3#32
  let v140 : BitVec 1 := Scalar.cmpi .ne v2 c3_i32_67
  let v141 : BitVec 32 := Scalar.extui v140
  let c0_i32_68 : BitVec 32 := 0#32
  let v142 : BitVec 1 := Scalar.cmpi .ne v141 c0_i32_68
  v142

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_69 : BitVec 32 := 4#32
  let v143 : BitVec 1 := Scalar.cmpi .ne v2 c4_i32_69
  let v144 : BitVec 32 := Scalar.extui v143
  let c0_i32_70 : BitVec 32 := 0#32
  let v145 : BitVec 1 := Scalar.cmpi .ne v144 c0_i32_70
  v145

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_71 : BitVec 32 := 5#32
  let v146 : BitVec 1 := Scalar.cmpi .ne v2 c5_i32_71
  let v147 : BitVec 32 := Scalar.extui v146
  let c0_i32_72 : BitVec 32 := 0#32
  let v148 : BitVec 1 := Scalar.cmpi .ne v147 c0_i32_72
  v148

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_73 : BitVec 32 := 6#32
  let v149 : BitVec 1 := Scalar.cmpi .ne v2 c6_i32_73
  let v150 : BitVec 32 := Scalar.extui v149
  let c0_i32_74 : BitVec 32 := 0#32
  let v151 : BitVec 1 := Scalar.cmpi .ne v150 c0_i32_74
  v151

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_75 : BitVec 32 := 7#32
  let v152 : BitVec 1 := Scalar.cmpi .ne v2 c7_i32_75
  let v153 : BitVec 32 := Scalar.extui v152
  let c0_i32_76 : BitVec 32 := 0#32
  let v154 : BitVec 1 := Scalar.cmpi .ne v153 c0_i32_76
  v154

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_77 : BitVec 32 := 8#32
  let v155 : BitVec 1 := Scalar.cmpi .ne v2 c8_i32_77
  let v156 : BitVec 32 := Scalar.extui v155
  let c0_i32_78 : BitVec 32 := 0#32
  let v157 : BitVec 1 := Scalar.cmpi .ne v156 c0_i32_78
  v157

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_79 : BitVec 32 := 9#32
  let v158 : BitVec 1 := Scalar.cmpi .ne v2 c9_i32_79
  let v159 : BitVec 32 := Scalar.extui v158
  let c0_i32_80 : BitVec 32 := 0#32
  let v160 : BitVec 1 := Scalar.cmpi .ne v159 c0_i32_80
  v160

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_81 : BitVec 32 := 10#32
  let v161 : BitVec 1 := Scalar.cmpi .ne v2 c10_i32_81
  let v162 : BitVec 32 := Scalar.extui v161
  let c0_i32_82 : BitVec 32 := 0#32
  let v163 : BitVec 1 := Scalar.cmpi .ne v162 c0_i32_82
  v163

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_83 : BitVec 32 := 11#32
  let v164 : BitVec 1 := Scalar.cmpi .ne v2 c11_i32_83
  let v165 : BitVec 32 := Scalar.extui v164
  let c0_i32_84 : BitVec 32 := 0#32
  let v166 : BitVec 1 := Scalar.cmpi .ne v165 c0_i32_84
  v166

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_85 : BitVec 32 := 12#32
  let v167 : BitVec 1 := Scalar.cmpi .ne v2 c12_i32_85
  let v168 : BitVec 32 := Scalar.extui v167
  let c0_i32_86 : BitVec 32 := 0#32
  let v169 : BitVec 1 := Scalar.cmpi .ne v168 c0_i32_86
  v169

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_87 : BitVec 32 := 13#32
  let v170 : BitVec 1 := Scalar.cmpi .ne v2 c13_i32_87
  let v171 : BitVec 32 := Scalar.extui v170
  let c0_i32_88 : BitVec 32 := 0#32
  let v172 : BitVec 1 := Scalar.cmpi .ne v171 c0_i32_88
  v172

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_89 : BitVec 32 := 14#32
  let v173 : BitVec 1 := Scalar.cmpi .ne v2 c14_i32_89
  let v174 : BitVec 32 := Scalar.extui v173
  let c0_i32_90 : BitVec 32 := 0#32
  let v175 : BitVec 1 := Scalar.cmpi .ne v174 c0_i32_90
  v175

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_91 : BitVec 32 := 15#32
  let v176 : BitVec 1 := Scalar.cmpi .ne v2 c15_i32_91
  let v177 : BitVec 32 := Scalar.extui v176
  let c0_i32_92 : BitVec 32 := 0#32
  let v178 : BitVec 1 := Scalar.cmpi .ne v177 c0_i32_92
  v178

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_113 : BitVec 32 := 0#32
  let c0_i32_114 : BitVec 32 := 0#32
  ![v2.toNat, 0, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_99_r0 : BitVec 32 := 0#32
  let v183_r0 : BitVec 1 := Scalar.cmpi .ne v2 c0_i32_99_r0
  let v184_r0 : BitVec 32 := Scalar.extui v183_r0
  let c0_i32_100_r0 : BitVec 32 := 0#32
  let v185_r0 : BitVec 1 := Scalar.cmpi .ne v184_r0 c0_i32_100_r0
  v185_r0

def k0_dev33 : Nat :=
  let c0_i32_136_r0 : BitVec 32 := 0#32
  let c0_i32_134_r0 : BitVec 32 := 0#32
  let c1_i32_135_r0 : BitVec 32 := 1#32
  let v231_r0 : BitVec 32 := Scalar.muli c0_i32_134_r0 c1_i32_135_r0
  let v232_r0 : BitVec 32 := Scalar.addi c0_i32_136_r0 v231_r0
  v232_r0.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_101_r0 : BitVec 32 := 1#32
  let v186_r0 : BitVec 1 := Scalar.cmpi .ne v2 c1_i32_101_r0
  let v187_r0 : BitVec 32 := Scalar.extui v186_r0
  let c0_i32_102_r0 : BitVec 32 := 0#32
  let v188_r0 : BitVec 1 := Scalar.cmpi .ne v187_r0 c0_i32_102_r0
  v188_r0

def k0_dev34 : Nat :=
  let c0_i32_136_r0 : BitVec 32 := 0#32
  let c1_i32_134_r0 : BitVec 32 := 1#32
  let c1_i32_135_r0 : BitVec 32 := 1#32
  let v231_r0 : BitVec 32 := Scalar.muli c1_i32_134_r0 c1_i32_135_r0
  let v232_r0 : BitVec 32 := Scalar.addi c0_i32_136_r0 v231_r0
  v232_r0.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_103_r0 : BitVec 32 := 2#32
  let v189_r0 : BitVec 1 := Scalar.cmpi .ne v2 c2_i32_103_r0
  let v190_r0 : BitVec 32 := Scalar.extui v189_r0
  let c0_i32_104_r0 : BitVec 32 := 0#32
  let v191_r0 : BitVec 1 := Scalar.cmpi .ne v190_r0 c0_i32_104_r0
  v191_r0

def k0_dev35 : Nat :=
  let c0_i32_136_r0 : BitVec 32 := 0#32
  let c2_i32_134_r0 : BitVec 32 := 2#32
  let c1_i32_135_r0 : BitVec 32 := 1#32
  let v231_r0 : BitVec 32 := Scalar.muli c2_i32_134_r0 c1_i32_135_r0
  let v232_r0 : BitVec 32 := Scalar.addi c0_i32_136_r0 v231_r0
  v232_r0.toNat
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_105_r0 : BitVec 32 := 3#32
  let v192_r0 : BitVec 1 := Scalar.cmpi .ne v2 c3_i32_105_r0
  let v193_r0 : BitVec 32 := Scalar.extui v192_r0
  let c0_i32_106_r0 : BitVec 32 := 0#32
  let v194_r0 : BitVec 1 := Scalar.cmpi .ne v193_r0 c0_i32_106_r0
  v194_r0

def k0_dev36 : Nat :=
  let c0_i32_136_r0 : BitVec 32 := 0#32
  let c3_i32_134_r0 : BitVec 32 := 3#32
  let c1_i32_135_r0 : BitVec 32 := 1#32
  let v231_r0 : BitVec 32 := Scalar.muli c3_i32_134_r0 c1_i32_135_r0
  let v232_r0 : BitVec 32 := Scalar.addi c0_i32_136_r0 v231_r0
  v232_r0.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_107_r0 : BitVec 32 := 4#32
  let v195_r0 : BitVec 1 := Scalar.cmpi .ne v2 c4_i32_107_r0
  let v196_r0 : BitVec 32 := Scalar.extui v195_r0
  let c0_i32_108_r0 : BitVec 32 := 0#32
  let v197_r0 : BitVec 1 := Scalar.cmpi .ne v196_r0 c0_i32_108_r0
  v197_r0

def k0_dev37 : Nat :=
  let c0_i32_136_r0 : BitVec 32 := 0#32
  let c4_i32_134_r0 : BitVec 32 := 4#32
  let c1_i32_135_r0 : BitVec 32 := 1#32
  let v231_r0 : BitVec 32 := Scalar.muli c4_i32_134_r0 c1_i32_135_r0
  let v232_r0 : BitVec 32 := Scalar.addi c0_i32_136_r0 v231_r0
  v232_r0.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_109_r0 : BitVec 32 := 5#32
  let v198_r0 : BitVec 1 := Scalar.cmpi .ne v2 c5_i32_109_r0
  let v199_r0 : BitVec 32 := Scalar.extui v198_r0
  let c0_i32_110_r0 : BitVec 32 := 0#32
  let v200_r0 : BitVec 1 := Scalar.cmpi .ne v199_r0 c0_i32_110_r0
  v200_r0

def k0_dev38 : Nat :=
  let c0_i32_136_r0 : BitVec 32 := 0#32
  let c5_i32_134_r0 : BitVec 32 := 5#32
  let c1_i32_135_r0 : BitVec 32 := 1#32
  let v231_r0 : BitVec 32 := Scalar.muli c5_i32_134_r0 c1_i32_135_r0
  let v232_r0 : BitVec 32 := Scalar.addi c0_i32_136_r0 v231_r0
  v232_r0.toNat
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_111_r0 : BitVec 32 := 6#32
  let v201_r0 : BitVec 1 := Scalar.cmpi .ne v2 c6_i32_111_r0
  let v202_r0 : BitVec 32 := Scalar.extui v201_r0
  let c0_i32_112_r0 : BitVec 32 := 0#32
  let v203_r0 : BitVec 1 := Scalar.cmpi .ne v202_r0 c0_i32_112_r0
  v203_r0

def k0_dev39 : Nat :=
  let c0_i32_136_r0 : BitVec 32 := 0#32
  let c6_i32_134_r0 : BitVec 32 := 6#32
  let c1_i32_135_r0 : BitVec 32 := 1#32
  let v231_r0 : BitVec 32 := Scalar.muli c6_i32_134_r0 c1_i32_135_r0
  let v232_r0 : BitVec 32 := Scalar.addi c0_i32_136_r0 v231_r0
  v232_r0.toNat
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_113_r0 : BitVec 32 := 7#32
  let v204_r0 : BitVec 1 := Scalar.cmpi .ne v2 c7_i32_113_r0
  let v205_r0 : BitVec 32 := Scalar.extui v204_r0
  let c0_i32_114_r0 : BitVec 32 := 0#32
  let v206_r0 : BitVec 1 := Scalar.cmpi .ne v205_r0 c0_i32_114_r0
  v206_r0

def k0_dev40 : Nat :=
  let c0_i32_136_r0 : BitVec 32 := 0#32
  let c7_i32_134_r0 : BitVec 32 := 7#32
  let c1_i32_135_r0 : BitVec 32 := 1#32
  let v231_r0 : BitVec 32 := Scalar.muli c7_i32_134_r0 c1_i32_135_r0
  let v232_r0 : BitVec 32 := Scalar.addi c0_i32_136_r0 v231_r0
  v232_r0.toNat
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_115_r0 : BitVec 32 := 8#32
  let v207_r0 : BitVec 1 := Scalar.cmpi .ne v2 c8_i32_115_r0
  let v208_r0 : BitVec 32 := Scalar.extui v207_r0
  let c0_i32_116_r0 : BitVec 32 := 0#32
  let v209_r0 : BitVec 1 := Scalar.cmpi .ne v208_r0 c0_i32_116_r0
  v209_r0

def k0_dev41 : Nat :=
  let c0_i32_136_r0 : BitVec 32 := 0#32
  let c8_i32_134_r0 : BitVec 32 := 8#32
  let c1_i32_135_r0 : BitVec 32 := 1#32
  let v231_r0 : BitVec 32 := Scalar.muli c8_i32_134_r0 c1_i32_135_r0
  let v232_r0 : BitVec 32 := Scalar.addi c0_i32_136_r0 v231_r0
  v232_r0.toNat
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_117_r0 : BitVec 32 := 9#32
  let v210_r0 : BitVec 1 := Scalar.cmpi .ne v2 c9_i32_117_r0
  let v211_r0 : BitVec 32 := Scalar.extui v210_r0
  let c0_i32_118_r0 : BitVec 32 := 0#32
  let v212_r0 : BitVec 1 := Scalar.cmpi .ne v211_r0 c0_i32_118_r0
  v212_r0

def k0_dev42 : Nat :=
  let c0_i32_136_r0 : BitVec 32 := 0#32
  let c9_i32_134_r0 : BitVec 32 := 9#32
  let c1_i32_135_r0 : BitVec 32 := 1#32
  let v231_r0 : BitVec 32 := Scalar.muli c9_i32_134_r0 c1_i32_135_r0
  let v232_r0 : BitVec 32 := Scalar.addi c0_i32_136_r0 v231_r0
  v232_r0.toNat
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_119_r0 : BitVec 32 := 10#32
  let v213_r0 : BitVec 1 := Scalar.cmpi .ne v2 c10_i32_119_r0
  let v214_r0 : BitVec 32 := Scalar.extui v213_r0
  let c0_i32_120_r0 : BitVec 32 := 0#32
  let v215_r0 : BitVec 1 := Scalar.cmpi .ne v214_r0 c0_i32_120_r0
  v215_r0

def k0_dev43 : Nat :=
  let c0_i32_136_r0 : BitVec 32 := 0#32
  let c10_i32_134_r0 : BitVec 32 := 10#32
  let c1_i32_135_r0 : BitVec 32 := 1#32
  let v231_r0 : BitVec 32 := Scalar.muli c10_i32_134_r0 c1_i32_135_r0
  let v232_r0 : BitVec 32 := Scalar.addi c0_i32_136_r0 v231_r0
  v232_r0.toNat
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_121_r0 : BitVec 32 := 11#32
  let v216_r0 : BitVec 1 := Scalar.cmpi .ne v2 c11_i32_121_r0
  let v217_r0 : BitVec 32 := Scalar.extui v216_r0
  let c0_i32_122_r0 : BitVec 32 := 0#32
  let v218_r0 : BitVec 1 := Scalar.cmpi .ne v217_r0 c0_i32_122_r0
  v218_r0

def k0_dev44 : Nat :=
  let c0_i32_136_r0 : BitVec 32 := 0#32
  let c11_i32_134_r0 : BitVec 32 := 11#32
  let c1_i32_135_r0 : BitVec 32 := 1#32
  let v231_r0 : BitVec 32 := Scalar.muli c11_i32_134_r0 c1_i32_135_r0
  let v232_r0 : BitVec 32 := Scalar.addi c0_i32_136_r0 v231_r0
  v232_r0.toNat
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_123_r0 : BitVec 32 := 12#32
  let v219_r0 : BitVec 1 := Scalar.cmpi .ne v2 c12_i32_123_r0
  let v220_r0 : BitVec 32 := Scalar.extui v219_r0
  let c0_i32_124_r0 : BitVec 32 := 0#32
  let v221_r0 : BitVec 1 := Scalar.cmpi .ne v220_r0 c0_i32_124_r0
  v221_r0

def k0_dev45 : Nat :=
  let c0_i32_136_r0 : BitVec 32 := 0#32
  let c12_i32_134_r0 : BitVec 32 := 12#32
  let c1_i32_135_r0 : BitVec 32 := 1#32
  let v231_r0 : BitVec 32 := Scalar.muli c12_i32_134_r0 c1_i32_135_r0
  let v232_r0 : BitVec 32 := Scalar.addi c0_i32_136_r0 v231_r0
  v232_r0.toNat
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_125_r0 : BitVec 32 := 13#32
  let v222_r0 : BitVec 1 := Scalar.cmpi .ne v2 c13_i32_125_r0
  let v223_r0 : BitVec 32 := Scalar.extui v222_r0
  let c0_i32_126_r0 : BitVec 32 := 0#32
  let v224_r0 : BitVec 1 := Scalar.cmpi .ne v223_r0 c0_i32_126_r0
  v224_r0

def k0_dev46 : Nat :=
  let c0_i32_136_r0 : BitVec 32 := 0#32
  let c13_i32_134_r0 : BitVec 32 := 13#32
  let c1_i32_135_r0 : BitVec 32 := 1#32
  let v231_r0 : BitVec 32 := Scalar.muli c13_i32_134_r0 c1_i32_135_r0
  let v232_r0 : BitVec 32 := Scalar.addi c0_i32_136_r0 v231_r0
  v232_r0.toNat
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_127_r0 : BitVec 32 := 14#32
  let v225_r0 : BitVec 1 := Scalar.cmpi .ne v2 c14_i32_127_r0
  let v226_r0 : BitVec 32 := Scalar.extui v225_r0
  let c0_i32_128_r0 : BitVec 32 := 0#32
  let v227_r0 : BitVec 1 := Scalar.cmpi .ne v226_r0 c0_i32_128_r0
  v227_r0

def k0_dev47 : Nat :=
  let c0_i32_136_r0 : BitVec 32 := 0#32
  let c14_i32_134_r0 : BitVec 32 := 14#32
  let c1_i32_135_r0 : BitVec 32 := 1#32
  let v231_r0 : BitVec 32 := Scalar.muli c14_i32_134_r0 c1_i32_135_r0
  let v232_r0 : BitVec 32 := Scalar.addi c0_i32_136_r0 v231_r0
  v232_r0.toNat
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_129_r0 : BitVec 32 := 15#32
  let v228_r0 : BitVec 1 := Scalar.cmpi .ne v2 c15_i32_129_r0
  let v229_r0 : BitVec 32 := Scalar.extui v228_r0
  let c0_i32_130_r0 : BitVec 32 := 0#32
  let v230_r0 : BitVec 1 := Scalar.cmpi .ne v229_r0 c0_i32_130_r0
  v230_r0

def k0_dev48 : Nat :=
  let c0_i32_136_r0 : BitVec 32 := 0#32
  let c15_i32_134_r0 : BitVec 32 := 15#32
  let c1_i32_135_r0 : BitVec 32 := 1#32
  let v231_r0 : BitVec 32 := Scalar.muli c15_i32_134_r0 c1_i32_135_r0
  let v232_r0 : BitVec 32 := Scalar.addi c0_i32_136_r0 v231_r0
  v232_r0.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S2x1024 : Shape := ⟨2, ![2, 1024]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .i32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S1x1024, .f32⟩
  | .hbm, ⟨51, _⟩ => ⟨S2x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.CellsKI.lean ====
/-
The sixteen devices, their semaphores and the sixteen slots of the exchange buffer.

Every device keeps a buffer of sixteen slots, one per device, each a pair of rows of 1024 sums. A device writes
its own slot, and copies it into the same slot of every other device. It has one barrier counter, one exit
counter, and for every device `p` a send counter and a receive counter.
-/
module

public import proofs.«01_k».proof.Proof.Gen.KernelIdeal.Frame
public import proofs.«01_k».proof.Proof.Gen.KernelIdeal.Skeleton
public import Idealize.ShloMosaic.Lib.ShareLeaves
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Resources -/

/-- Duties are named by devices. -/
abbrev UX : Type := URounds (GSem nD τ sig) (Dev nD)
/-- The pipeline's share of the ghost state beside the exchange's. -/
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

/-! ## Buffers and slots -/

abbrev xM : Memref sig .tc .vmem S1024x1024 .f32 := Memref.whole cc0_stg0_0
abbrev yM : Memref sig .tc .vmem S1024x1024 .f32 := Memref.whole cc0_stg1_0
abbrev oM : Memref sig .tc .vmem S2x1024 .f32 := Memref.whole cc0_stg2_0
abbrev rM : Memref sig .tc .vmem S16x2x1024 .f32 := Memref.whole cc0_scratch0

/-- A slot's offset lies inside the buffer. -/
theorem slot_inb (p : Dev nD) : ∀ a, (![p.val, 0, 0] : Fin 3 → ℕ) a + S1x2x1024.size a ≤ S16x2x1024.size a := by
  revert p; decide
theorem sem_inb (p : Dev nD) : ∀ a, (![p.val] : Fin 1 → ℕ) a + S1.size a ≤ S16.size a := by revert p; decide

/-- The rectangle of slot `p`. -/
abbrev slotR (p : Dev nD) : Rect S16x2x1024 := Rect.unit (s := S16x2x1024) ![p.val, 0, 0] S1x2x1024.size (slot_inb p)
/-- Slot `p` as the copies see it, two rows. -/
abbrev slotM (p : Dev nD) : Memref sig .tc .vmem S2x1024 .f32 :=
  ((rM : Memref sig .tc .vmem S16x2x1024 .f32).slice (slotR p) (fun _ => rfl)).squeeze S2x1024 squeezes_S1x2x1024_S2x1024

/-- The elements of slot `p`. -/
abbrev slotSet (p : Dev nD) : Finset (cc0_scratch0 : Ref sig .tc).ty.Idx := (slotM p).view.set

theorem slotSet_eq (p : Dev nD) : slotSet p = ((rM : Memref sig .tc .vmem S16x2x1024 .f32).access (slotR p)).set := by
  show (((rM : Memref sig .tc .vmem S16x2x1024 .f32).view.slice (slotR p)).reshape _ _).set = _
  rw [View.set_reshape]

/-- An element is in slot `p` when its first coordinate is `p`. -/
theorem mem_slotSet (p : Dev nD) (i : S16x2x1024.Idx) : i ∈ slotSet p ↔ (i 0).val = p.val := by
  rw [slotSet_eq]
  show i ∈ ((View.whole cc0_scratch0).slice (slotR p)).set ↔ _
  rw [View.set_slice_whole]
  show i ∈ (Rect.unit (s := S16x2x1024) ![p.val, 0, 0] S1x2x1024.size (slot_inb p)).set ↔ _
  rw [Rect.mem_set_unit]
  constructor
  · intro h
    have h0 := h 0
    simp at h0
    omega
  · intro h a
    have h1 := (i 1).isLt
    have h2 := (i 2).isLt
    fin_cases a <;> simp at * <;> omega

theorem slots_disjoint {p q : Dev nD} (h : p ≠ q) : Disjoint (slotSet p) (slotSet q) := by
  refine Finset.disjoint_left.mpr fun i hp hq => h (Fin.ext ?_)
  exact ((mem_slotSet p i).mp hp).symm.trans ((mem_slotSet q i).mp hq)

/-- The slots make up the buffer. -/
theorem slots_cover : (Finset.univ : Finset (Dev nD)).biUnion slotSet = Finset.univ := by
  refine Finset.eq_univ_of_forall fun i => ?_
  exact Finset.mem_biUnion.mpr ⟨⟨(i 0).val, (i 0).isLt⟩, Finset.mem_univ _, (mem_slotSet _ i).mpr rfl⟩

/-! ## Semaphores -/

abbrev barS : Sem sig := (SemArray.scalar (sig.barrier 0 rfl) : Sems sig S_).sem
abbrev exitS : Sem sig := (cc0_scoped0 : Sems sig S_).sem
abbrev sendS (p : Dev nD) : DmaSem sig :=
  ((cc0_scratch1 : DmaSems sig S16).slice (Rect.unit (s := S16) ![p.val] S1.size (sem_inb p))).squeeze S_ squeezes_S1_S_ |>.sem
abbrev recvS (p : Dev nD) : DmaSem sig :=
  ((cc0_scratch2 : DmaSems sig S16).slice (Rect.unit (s := S16) ![p.val] S1.size (sem_inb p))).squeeze S_ squeezes_S1_S_ |>.sem

abbrev barCell (c : Dev nD) : GSem nD τ sig := ((c : Thread nD τ), .reg barS)
abbrev exitCell (c : Dev nD) : GSem nD τ sig := ((c : Thread nD τ), .reg exitS)
abbrev sendCell (c p : Dev nD) : GSem nD τ sig := ((c : Thread nD τ), .dma (sendS p))
abbrev recvCell (c p : Dev nD) : GSem nD τ sig := ((c : Thread nD τ), .dma (recvS p))

/-- What a semaphore is for. -/
inductive Role
  | bar | exit | send (p : Dev nD) | recv (p : Dev nD) | other
  deriving DecidableEq

/-- The role of each semaphore, by its number. -/
def role : SemLoc sig → Role
  | .reg s => if s = barS then .bar else .exit
  | .dma s =>
    if h : 3 ≤ s.val ∧ s.val < 19 then .send ⟨s.val - 3, by show _ < 16; omega⟩
    else if h : 19 ≤ s.val ∧ s.val < 35 then .recv ⟨s.val - 19, by show _ < 16; omega⟩
    else .other

theorem role_bar : role (.reg barS) = .bar := by decide
theorem role_exit : role (.reg exitS) = .exit := by decide
theorem role_send (p : Dev nD) : role (.dma (sendS p)) = .send p := by revert p; decide
theorem role_recv (p : Dev nD) : role (.dma (recvS p)) = .recv p := by revert p; decide

/-- The credit of one slot's copy. -/
abbrev N : ℕ := (slotM 0).view.dmaCredit
theorem N_pos : 0 < N := View.dmaCredit_pos _ (by decide)
theorem slot_credit (p : Dev nD) : (slotM p).view.dmaCredit = N := rfl

end Cert.KernelIdeal.Exchange

end
-- ==== Proof.ScheduleKI.lean ====
/-
What each counter waits for, and what comes with it.

Every counter has one round. A device's barrier and exit counters wait for one unit from every other device; the
barrier's unit from device `d` brings the right to write the waiting device's slot of `d`'s buffer. Receive
counter `p` of device `c` waits for device `p`'s copy and brings slot `p` holding device `p`'s partial sums; send
counter `p` waits for the copy to device `p` to have read its source and brings a share of the source back.
-/
module

public import proofs.«01_k».proof.Proof.CellsKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- Device `c`'s block of the first argument, as staged. -/
def xStg (c : Dev nD) : (cc0_stg0_0 : Ref sig .tc).ty.Contents (Elt F) :=
  (win0_0.blk (0 : Fin 1)).view.read (Elt F) (m ((c : Thread nD τ).loc main_arg0))
/-- Device `c`'s block of the second argument, as staged. -/
def yStg (c : Dev nD) : (cc0_stg1_0 : Ref sig .tc).ty.Contents (Elt F) :=
  (win0_1.blk (0 : Fin 1)).view.read (Elt F) (m ((c : Thread nD τ).loc main_arg1))

/-- The pair of rows of partial sums that device `c` computes. -/
def part (c : Dev nD) : Vec F S1x2x1024 .f32 := k0_pay1 (xStg m c) (yStg m c)

/-- The index `i` within its slot. -/
def inSlot (i : S16x2x1024.Idx) : S1x2x1024.Idx := fun a =>
  match a with
  | ⟨0, _⟩ => ⟨0, Nat.one_pos⟩
  | ⟨1, _⟩ => i 1
  | ⟨2, _⟩ => i 2
/-- The device whose slot holds the index `i`. -/
def slotOf (i : S16x2x1024.Idx) : Dev nD := i 0

/-- The exchange buffer once everything arrived: slot `p` holds device `p`'s partial sums, on every device. -/
def allParts : (cc0_scratch0 : Ref sig .tc).ty.Contents (Elt F) := fun i => part m (slotOf i) (inSlot i)

/-- The two rows of results, the same on every device. -/
def total : (cc0_stg2_0 : Ref sig .tc).ty.Contents (Elt F) := k0_pay2 (allParts m)

/-- Slot `p` of device `d`'s buffer at share `q`, holding `f`. -/
def slotPts (d p : Dev nD) (q : PosShare TreeShare) (f : (cc0_scratch0 : Ref sig .tc).ty.Contents (Elt F)) : sProp 𝕄 :=
  (slotM p).view.loc (d : Thread nD τ) ↦[(slotM p).view.set]{q} f

omit [FloatOps F] in
instance slotPts_storable (d p : Dev nD) (q : PosShare TreeShare) (f) :
    BI.Storable (upEmb : UEmb _ 𝕄) (slotPts (F := F) d p q f) := by unfold slotPts; infer_instance

/-- The share of a slot that the copy to device `p` reads through. -/
def leafOf (p : Dev nD) : PosShare TreeShare := ShareLeaves.leaf 4 fullShare (finCongr (by decide : nD = 2 ^ 4) p)

omit [FloatOps F] in
/-- A device's own slot, whole, is sixteen shares of it. -/
theorem slot_leaves (c : Dev nD) (f : (cc0_scratch0 : Ref sig .tc).ty.Contents (Elt F)) :
    (slotPts c c fullShare f : sProp 𝕄) = bigSep Finset.univ fun p : Dev nD => slotPts c c (leafOf p) f := by
  have h := ShareLeaves.pointsTo_leaves (Ix := Unit) (Name := ℕ) (U := UU) (Lvl := ℕ) (ℓ := (c : Thread nD τ).loc cc0_scratch0) (slotSet c) f 4 fullShare
  rw [bigSep_univ_equiv (finCongr (by decide : nD = 2 ^ 4))] at h
  exact h

omit [FloatOps F] in
/-- The whole buffer is its sixteen slots. -/
theorem buffer_slots (d : Dev nD) (f : (cc0_scratch0 : Ref sig .tc).ty.Contents (Elt F)) :
    ((((d : Thread nD τ).loc cc0_scratch0) ↦{fullShare} f) : sProp 𝕄) = bigSep Finset.univ fun p : Dev nD => slotPts d p fullShare f := by
  have h := pointsTo_biUnion (Ix := Unit) (Name := ℕ) (U := UU) (Lvl := ℕ) (ℓ := (d : Thread nD τ).loc cc0_scratch0) (q := fullShare) (f := f)
    (Finset.univ : Finset (Dev nD)) slotSet (fun p _ q _ hpq => slots_disjoint hpq)
  rw [slots_cover] at h
  exact h

omit [FloatOps F] in
/-- A copy of slot `p` that held `g` leaves `g` in slot `p`, whatever was there. -/
theorem copied (d p : Dev nD) (fd g : (cc0_scratch0 : Ref sig .tc).ty.Contents (Elt F)) :
    ((slotM p).view.loc (d : Thread nD τ) ↦[(slotM p).view.set]{fullShare}
        ((slotM p).view.write (Elt F) fd ((slotM p).view.read (Elt F) g) Finset.univ) : sProp 𝕄) = slotPts d p fullShare g := by
  unfold slotPts
  refine pointsTo_congr fun i hi => ?_
  rw [View.write_read_eq_piecewise]
  exact Finset.piecewise_eq_of_mem _ _ _ (by rw [View.setOn_univ]; exact hi)

/-- A device's store of its partial sums into its own slot leaves there what everyone is to hold. -/
theorem stored (c : Dev nD) (f : (cc0_scratch0 : Ref sig .tc).ty.Contents (Elt F)) :
    ((slotM c).view.loc (c : Thread nD τ) ↦[(slotM c).view.set]{fullShare}
        (((rM : Memref sig .tc .vmem S16x2x1024 .f32).access (slotR c) : View sig .tc _ _ _).write (Elt F) f (part m c) Finset.univ) : sProp 𝕄)
      = slotPts c c fullShare (allParts m) := by
  unfold slotPts
  refine pointsTo_congr fun i hi => ?_
  have hi' : i ∈ ((rM : Memref sig .tc .vmem S16x2x1024 .f32).access (slotR c)).set := by rw [← slotSet_eq]; exact hi
  obtain ⟨x, -, rfl⟩ := Finset.mem_map.mp hi'
  rw [View.write_emb_of_mem _ _ (Finset.mem_univ x)]
  show part m c x = part m (slotOf ((slotR c).emb x)) (inSlot ((slotR c).emb x))
  have h0 : slotOf ((slotR c).emb x) = c := by
    refine Fin.ext ?_
    have := (mem_slotSet c _).mp hi
    exact this
  have h1 : inSlot ((slotR c).emb x) = x := by
    funext a
    have hx : (x 0).val = 0 := Nat.lt_one_iff.mp (x 0).isLt
    fin_cases a
    · exact Fin.ext hx.symm
    · exact Fin.ext (by show 0 + 1 * (x 1).val = (x 1).val; omega)
    · exact Fin.ext (by show 0 + 1 * (x 2).val = (x 2).val; omega)
  rw [h0, h1]

/-! ## The schedule -/

/-- Every device but `c`. -/
abbrev peers (c : Dev nD) : Finset (Dev nD) := Finset.univ.erase c

/-- Who pays the counter of a given role on device `c`. -/
def payers (c : Dev nD) : Role → Finset (Dev nD)
  | .bar => peers c
  | .exit => peers c
  | .send p => if p = c then ∅ else {p}
  | .recv p => if p = c then ∅ else {p}
  | .other => ∅

/-- How much each payment is. -/
def price : Role → ℕ
  | .bar => 1
  | .exit => 1
  | _ => N

/-- What device `d`'s payment brings to device `c`. -/
def goods (c d : Dev nD) : Role → sProp 𝕄
  | .bar => iprop(∃ f, slotPts d c fullShare f)
  | .exit => iprop(emp)
  | .send p => slotPts c c (leafOf p) (allParts m)
  | .recv p => slotPts c p fullShare (allParts m)
  | .other => iprop(emp)

theorem price_pos (r : Role) : 0 < price r := by
  cases r
  · exact Nat.one_pos
  · exact Nat.one_pos
  all_goals exact N_pos

/-- The exchange's schedule: one round. -/
def plan : Rounds.Schedule (GSem nD τ sig) (Dev nD) 𝕄 where
  duties g r := if r = 0 ∧ g.1.2 = .tc then payers g.1.1 (role g.2) else ∅
  unitless _ := False
  amount g _ _ := price (role g.2)
  payload g _ d := goods m g.1.1 d (role g.2)
  amount_pos g _ _ _ := price_pos _

instance plan_storable (g : GSem nD τ sig) (r : ℕ) (d : Dev nD) :
    BI.Storable (upEmb : UEmb _ 𝕄) ((plan (F := F) m).payload g r d) := by
  show BI.Storable upEmb (goods m g.1.1 d (role g.2))
  cases role g.2 <;> unfold goods <;> infer_instance

theorem duties_tc (c : Dev nD) (s : SemLoc sig) : (plan (F := F) m).duties ((c : Thread nD τ), s) 0 = payers c (role s) := by
  dsimp only [plan]; exact if_pos ⟨rfl, rfl⟩
theorem duties_later (g : GSem nD τ sig) : ∀ r, 1 ≤ r → (plan (F := F) m).duties g r = ∅ := fun r hr => by
  dsimp only [plan]; exact if_neg fun h => by omega
theorem amount_tc (c : Dev nD) (s : SemLoc sig) (r : ℕ) (d : Dev nD) : (plan (F := F) m).amount ((c : Thread nD τ), s) r d = price (role s) := rfl
theorem payload_tc (c : Dev nD) (s : SemLoc sig) (r : ℕ) (d : Dev nD) :
    (plan (F := F) m).payload ((c : Thread nD τ), s) r d = goods m c d (role s) := rfl

theorem expect_tc (c : Dev nD) (s : SemLoc sig) : (plan (F := F) m).expect ((c : Thread nD τ), s) 0 = (payers c (role s)).card * price (role s) := by
  unfold Schedule.expect Schedule.amountOf
  rw [duties_tc, Finset.sum_congr rfl fun d _ => amount_tc m c s 0 d, Finset.sum_const, smul_eq_mul]

theorem card_peers (c : Dev nD) : (peers c).card = 15 := by revert c; decide

theorem expect_bar (c : Dev nD) : (plan (F := F) m).expect (barCell c) 0 = 15 := by
  rw [expect_tc, role_bar]; show (peers c).card * 1 = 15; rw [card_peers]
theorem expect_exit (c : Dev nD) : (plan (F := F) m).expect (exitCell c) 0 = 15 := by
  rw [expect_tc, role_exit]; show (peers c).card * 1 = 15; rw [card_peers]
theorem payers_send {c p : Dev nD} (h : p ≠ c) : payers c (.send p) = {p} := if_neg h
theorem payers_recv {c p : Dev nD} (h : p ≠ c) : payers c (.recv p) = {p} := if_neg h
theorem expect_send {c p : Dev nD} (h : p ≠ c) : (plan (F := F) m).expect (sendCell c p) 0 = N := by
  rw [expect_tc, role_send, payers_send h]; show 1 * N = N; exact Nat.one_mul _
theorem expect_recv {c p : Dev nD} (h : p ≠ c) : (plan (F := F) m).expect (recvCell c p) 0 = N := by
  rw [expect_tc, role_recv, payers_recv h]; show 1 * N = N; exact Nat.one_mul _

/-- What a counter's round brings altogether. -/
theorem round_goods (c : Dev nD) (s : SemLoc sig) :
    bigSep ((plan (F := F) m).duties ((c : Thread nD τ), s) 0 \ ∅) (fun d => (plan (F := F) m).payload ((c : Thread nD τ), s) 0 d)
      = bigSep (payers c (role s)) fun d => goods m c d (role s) := by
  rw [Finset.sdiff_empty, duties_tc]; rfl

end Cert.KernelIdeal.Exchange

end
-- ==== Proof.OwedKI.lean ====
/-
What each device owes, and the order in which waits may block.

A device owes every other device one unit on its barrier counter, the credit of one slot on its receive counter,
and one unit on its exit counter. Barrier counters come first, then receive counters, then exit counters; a
device waits only on counters that come before all that it still owes.
-/
module

public import proofs.«01_k».proof.Proof.ScheduleKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-! ## Sums of dues over a set of devices -/

/-- `n` units due on the counter `f p` of every `p` in `S`. -/
def dues (f : Dev nD → GSem nD τ sig) (n : ℕ) (S : Finset (Dev nD)) : CellTallies nD τ sig Unit :=
  ∑ p ∈ S, tallyAt (f p) () n

theorem dues_empty (f : Dev nD → GSem nD τ sig) (n : ℕ) : dues f n ∅ = 0 := Finset.sum_empty
theorem dues_insert (f : Dev nD → GSem nD τ sig) (n : ℕ) {S : Finset (Dev nD)} {p : Dev nD} (h : p ∉ S) :
    dues f n (insert p S) = dues f n S + tallyAt (f p) () n := by
  unfold dues; rw [Finset.sum_insert h, add_comm]

theorem dues_apply (f : Dev nD → GSem nD τ sig) (n : ℕ) (S : Finset (Dev nD)) (g : GSem nD τ sig) :
    dues f n S g () = ∑ p ∈ S, if g = f p then n else 0 := by
  unfold dues
  rw [Finset.sum_apply, Finsupp.finset_sum_apply]
  refine Finset.sum_congr rfl fun p _ => ?_
  rw [tallyAt_apply]
  by_cases h : g = f p
  · rw [if_pos ⟨h, rfl⟩, if_pos h]
  · rw [if_neg fun h' => h h'.1, if_neg h]

/-- Something due on `g` is due to one of the devices. -/
theorem dues_pos {f : Dev nD → GSem nD τ sig} {n : ℕ} {S : Finset (Dev nD)} {g : GSem nD τ sig} {u : Unit}
    (h : 0 < dues f n S g u) : ∃ p ∈ S, g = f p := by
  cases u
  rw [dues_apply] at h
  by_contra hn
  rw [Finset.sum_eq_zero fun p hp => if_neg fun hg => hn ⟨p, hp, hg⟩] at h
  exact Nat.lt_irrefl 0 h

/-- Barrier units that `c` owes the devices of `S`, -/
abbrev dueBar (S : Finset (Dev nD)) : CellTallies nD τ sig Unit := dues barCell 1 S
/-- copies, -/
abbrev dueCopy (c : Dev nD) (S : Finset (Dev nD)) : CellTallies nD τ sig Unit := dues (fun p => recvCell p c) N S
/-- exit units. -/
abbrev dueExit (S : Finset (Dev nD)) : CellTallies nD τ sig Unit := dues exitCell 1 S

theorem dueBar_insert {S : Finset (Dev nD)} {p : Dev nD} (h : p ∉ S) :
    dueBar (insert p S) = dueBar S + tallyAt (barCell p) () 1 := dues_insert _ _ h
theorem dueCopy_insert (c : Dev nD) {S : Finset (Dev nD)} {p : Dev nD} (h : p ∉ S) :
    dueCopy c (insert p S) = dueCopy c S + tallyAt (recvCell p c) () N := dues_insert _ _ h
theorem dueExit_insert {S : Finset (Dev nD)} {p : Dev nD} (h : p ∉ S) :
    dueExit (insert p S) = dueExit S + tallyAt (exitCell p) () 1 := dues_insert _ _ h

/-- All that device `c` owes at the start. -/
def O₀ (c : Dev nD) : CellTallies nD τ sig Unit := (dueExit (peers c) + dueCopy c (peers c)) + dueBar (peers c)

/-! ## Levels -/

def L (g : GSem nD τ sig) : Finset Unit := if g.1.2 = .tc then {()} else ∅

/-- Where a counter of a given role comes in the order. -/
def rank : Role → ℕ
  | .bar => 1
  | .recv _ => 2
  | .exit => 3
  | _ => 0
def lv (g : GSem nD τ sig) (_ : Unit) : ℕ := rank (role g.2)

theorem L_of_ne (g : GSem nD τ sig) (h : g.1.2 ≠ .tc) : L g = ∅ := if_neg h
theorem mem_L (c : Dev nD) (s : SemLoc sig) (u : Unit) : u ∈ L ((c : Thread nD τ), s) := by
  unfold L; rw [if_pos rfl]; exact Finset.mem_singleton_self _

/-- A wait may block when everything owed is on counters that come later. -/
theorem mayWait_below (c : Dev nD) (s : SemLoc sig) (O : CellTallies nD τ sig Unit) (k : ℕ) (hs : rank (role s) ≤ k)
    (hO : ∀ g u, 0 < O g u → ∃ (d : Dev nD) (s' : SemLoc sig), g = ((d : Thread nD τ), s') ∧ k < rank (role s')) :
    (levAts L lv : sProp 𝕄) ⊢ MayWait (c : Thread nD τ) s () O :=
  MayOwe.of_cut (L := L) (lev := lv) k
    (fun p hp => by rw [Finset.mem_singleton.mp hp]; exact mem_L c s ())
    (fun g u hg => by obtain ⟨d, s', rfl, -⟩ := hO g u hg; exact mem_L d s' u)
    (fun p hp => by rw [Finset.mem_singleton.mp hp]; exact hs)
    (fun g u hg => by obtain ⟨d, s', rfl, hk⟩ := hO g u hg; exact hk)

theorem exit_later (S : Finset (Dev nD)) (k : ℕ) (hk : k < 3) (g : GSem nD τ sig) (u : Unit) (h : 0 < dueExit S g u) :
    ∃ (d : Dev nD) (s' : SemLoc sig), g = ((d : Thread nD τ), s') ∧ k < rank (role s') := by
  obtain ⟨p, -, rfl⟩ := dues_pos h
  exact ⟨p, _, rfl, by rw [role_exit]; exact hk⟩
theorem copy_later (c : Dev nD) (S : Finset (Dev nD)) (k : ℕ) (hk : k < 2) (g : GSem nD τ sig) (u : Unit) (h : 0 < dueCopy c S g u) :
    ∃ (d : Dev nD) (s' : SemLoc sig), g = ((d : Thread nD τ), s') ∧ k < rank (role s') := by
  obtain ⟨p, -, rfl⟩ := dues_pos h
  exact ⟨p, _, rfl, by rw [role_recv]; exact hk⟩
theorem bar_later (S : Finset (Dev nD)) (k : ℕ) (hk : k < 1) (g : GSem nD τ sig) (u : Unit) (h : 0 < dueBar S g u) :
    ∃ (d : Dev nD) (s' : SemLoc sig), g = ((d : Thread nD τ), s') ∧ k < rank (role s') := by
  obtain ⟨p, -, rfl⟩ := dues_pos h
  exact ⟨p, _, rfl, by rw [role_bar]; exact hk⟩

theorem add_pos_or {A B : CellTallies nD τ sig Unit} {g : GSem nD τ sig} {u : Unit} (h : 0 < (A + B) g u) : 0 < A g u ∨ 0 < B g u := by
  rw [Pi.add_apply, Finsupp.add_apply] at h
  omega

/-- Before the first signal a device may wait on counters that no other device raises. -/
theorem mayWait_start (c : Dev nD) (s : SemLoc sig) (hs : rank (role s) = 0) :
    (levAts L lv : sProp 𝕄) ⊢ MayWait (c : Thread nD τ) s () (O₀ c) :=
  mayWait_below c s _ 0 hs.le fun g u h => by
    rcases add_pos_or h with h | h
    · rcases add_pos_or h with h | h
      · exact exit_later _ 0 (by decide) g u h
      · exact copy_later c _ 0 (by decide) g u h
    · exact bar_later _ 0 (by decide) g u h
/-- At the barrier it owes copies and exit units only; -/
theorem mayWait_bar (c : Dev nD) :
    (levAts L lv : sProp 𝕄) ⊢ MayWait (c : Thread nD τ) (.reg barS) () (dueExit (peers c) + dueCopy c (peers c)) :=
  mayWait_below c _ _ 1 (by rw [role_bar]; exact le_rfl) fun g u h => by
    rcases add_pos_or h with h | h
    · exact exit_later _ 1 (by decide) g u h
    · exact copy_later c _ 1 (by decide) g u h
/-- at the copies' waits exit units only. -/
theorem mayWait_recv (c p : Dev nD) (S : Finset (Dev nD)) :
    (levAts L lv : sProp 𝕄) ⊢ MayWait (c : Thread nD τ) (.dma (recvS p)) () (dueExit S) :=
  mayWait_below c _ _ 2 (by rw [role_recv]; exact le_rfl) fun g u h => exit_later _ 2 (by decide) g u h
theorem mayWait_send (c p : Dev nD) (S : Finset (Dev nD)) :
    (levAts L lv : sProp 𝕄) ⊢ MayWait (c : Thread nD τ) (.dma (sendS p)) () (dueExit S) :=
  mayWait_below c _ _ 2 (by rw [role_send]; exact Nat.zero_le _) fun g u h => exit_later _ 2 (by decide) g u h

end Cert.KernelIdeal.Exchange

end
-- ==== Proof.LoopKI.lean ====
/-
A round over all other devices.

The body has four passes over the sixteen devices, each skipping the device itself: the barrier signals, the
copies, the waits for the copies, the exit signals. A pass is followed by one invariant: what is still to be used
for the devices to come, what has been gained from the devices passed, and what is still owed.
-/
module

public import proofs.«01_k».proof.Proof.OwedKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A device program run on device `c` to the postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The devices passed and the devices to come -/

/-- The other devices from number `j` on. -/
def todo (c : Dev nD) (j : ℕ) : Finset (Dev nD) := (peers c).filter fun p => j ≤ p.val
/-- The other devices below number `j`. -/
def done (c : Dev nD) (j : ℕ) : Finset (Dev nD) := (peers c).filter fun p => p.val < j

theorem todo_zero (c : Dev nD) : todo c 0 = peers c := Finset.filter_true_of_mem fun p _ => Nat.zero_le _
theorem done_zero (c : Dev nD) : done c 0 = ∅ := Finset.filter_false_of_mem fun p _ => Nat.not_lt_zero _
theorem todo_end (c : Dev nD) : todo c 16 = ∅ := Finset.filter_false_of_mem fun p _ => Nat.not_le_of_lt p.isLt
theorem done_end (c : Dev nD) : done c 16 = peers c := Finset.filter_true_of_mem fun p _ => p.isLt

theorem mem_todo {c p : Dev nD} {j : ℕ} : p ∈ todo c j ↔ p ≠ c ∧ j ≤ p.val := by
  unfold todo; rw [Finset.mem_filter, Finset.mem_erase]; exact ⟨fun h => ⟨h.1.1, h.2⟩, fun h => ⟨⟨h.1, Finset.mem_univ _⟩, h.2⟩⟩
theorem mem_done {c p : Dev nD} {j : ℕ} : p ∈ done c j ↔ p ≠ c ∧ p.val < j := by
  unfold done; rw [Finset.mem_filter, Finset.mem_erase]; exact ⟨fun h => ⟨h.1.1, h.2⟩, fun h => ⟨⟨h.1, Finset.mem_univ _⟩, h.2⟩⟩

theorem todo_step {c p : Dev nD} (h : p ≠ c) : todo c p.val = insert p (todo c (p.val + 1)) := by
  ext q
  rw [Finset.mem_insert, mem_todo, mem_todo, Fin.ext_iff]
  constructor
  · rintro ⟨h1, h2⟩
    by_cases e : q.val = p.val
    · exact .inl e
    · exact .inr ⟨h1, by omega⟩
  · rintro (e | ⟨h1, h2⟩)
    · exact ⟨by rw [Fin.ext e]; exact h, by omega⟩
    · exact ⟨h1, by omega⟩
theorem done_step {c p : Dev nD} (h : p ≠ c) : done c (p.val + 1) = insert p (done c p.val) := by
  ext q
  rw [Finset.mem_insert, mem_done, mem_done, Fin.ext_iff]
  constructor
  · rintro ⟨h1, h2⟩
    by_cases e : q.val = p.val
    · exact .inl e
    · exact .inr ⟨h1, by omega⟩
  · rintro (e | ⟨h1, h2⟩)
    · exact ⟨by rw [Fin.ext e]; exact h, by omega⟩
    · exact ⟨h1, by omega⟩
theorem not_mem_todo_succ (c p : Dev nD) : p ∉ todo c (p.val + 1) := fun h => by have := (mem_todo.mp h).2; omega
theorem not_mem_done_self (c p : Dev nD) : p ∉ done c p.val := fun h => Nat.lt_irrefl _ (mem_done.mp h).2

theorem todo_self (c : Dev nD) : todo c c.val = todo c (c.val + 1) := by
  ext q
  rw [mem_todo, mem_todo]
  exact ⟨fun h => ⟨h.1, Nat.succ_le_of_lt (lt_of_le_of_ne h.2 fun e => h.1 (Fin.ext e.symm))⟩, fun h => ⟨h.1, by omega⟩⟩
theorem done_self (c : Dev nD) : done c (c.val + 1) = done c c.val := by
  ext q
  rw [mem_done, mem_done]
  exact ⟨fun h => ⟨h.1, lt_of_le_of_ne (Nat.le_of_lt_succ h.2) fun e => h.1 (Fin.ext e)⟩, fun h => ⟨h.1, by omega⟩⟩

omit [FloatOps F] in
/-- One device apart from the others. -/
theorem big_insert {S : Finset (Dev nD)} {p : Dev nD} (h : p ∉ S) (Φ : Dev nD → sProp 𝕄) :
    bigSep (insert p S) Φ = iprop(Φ p ∗ bigSep S Φ) := bigSep_insert h

/-! ## The invariant of a pass and its step -/

/-- Before device `j`'s turn: `Φ` for the devices to come, `Ψ` for those passed, and `O` of those to come owed. -/
def pass (c : Dev nD) (Φ Ψ : Dev nD → sProp 𝕄) (O : Finset (Dev nD) → CellTallies nD τ sig Unit) (j : ℕ) : sProp 𝕄 :=
  iprop(bigSep (todo c j) Φ ∗ bigSep (done c j) Ψ ∗ ∃ W : Waits sig Unit, owes (c : Thread nD τ) (O (todo c j)) W)

/-- What one turn has to do: turn `Φ p` into `Ψ p`, paying `p`'s share of what is owed. -/
def Turn (c : Dev nD) (E : sProp 𝕄) (Φ Ψ : Dev nD → sProp 𝕄) (O : Finset (Dev nD) → CellTallies nD τ sig Unit)
    (act : Dev nD → Prog (TpuEff nD τ sig (Elt F) Λ₀ .tc) PUnit) : Prop :=
  ∀ (p : Dev nD), p ≠ c → ∀ (S : Finset (Dev nD)), p ∉ S → ∀ (W : Waits sig Unit) (α : Type)
    (k : Prog (TpuEff nD τ sig (Elt F) Λ₀ .tc) α) (Q : α → sProp 𝕄),
    iprop(E ∗ Φ p ∗ owes (c : Thread nD τ) (O (insert p S)) W)
      ⊢ iprop(((Ψ p ∗ ∃ W : Waits sig Unit, owes (c : Thread nD τ) (O S) W) -∗ run c k Q) -∗ run c (act p >>= fun _ => k) Q)

/-- Device `j`'s turn, taken when `c` is another device and skipped when `c` is device `j`. -/
theorem pass_step {c : Dev nD} {E : sProp 𝕄} [BI.Persistent E] {Φ Ψ : Dev nD → sProp 𝕄}
    {O : Finset (Dev nD) → CellTallies nD τ sig Unit} {act : Dev nD → Prog (TpuEff nD τ sig (Elt F) Λ₀ .tc) PUnit}
    (ht : Turn c E Φ Ψ O act) (p : Dev nD) {b : BitVec 1} (hb : b = 1#1 ↔ c.val ≠ p.val)
    {A : b = 1#1 → Prog (TpuEff nD τ sig (Elt F) Λ₀ .tc) PUnit} (hA : ∀ h, A h = act p)
    {α : Type} {k : Prog (TpuEff nD τ sig (Elt F) Λ₀ .tc) α} {Q : α → sProp 𝕄} {X : sProp 𝕄}
    (hk : iprop(E ∗ pass c Φ Ψ O (p.val + 1) ∗ X) ⊢ run c k Q) :
    iprop(E ∗ pass c Φ Ψ O p.val ∗ X) ⊢ run c (if h : b = 1#1 then (A h >>= fun _ => k) else k) Q := by
  by_cases h : b = 1#1
  · rw [dif_pos h, hA h]
    have hp : p ≠ c := fun e => hb.mp h (by rw [e])
    unfold pass at hk ⊢
    rw [done_step hp, big_insert (not_mem_done_self c p)] at hk
    rw [todo_step hp, big_insert (not_mem_todo_succ c p)]
    iintro ⟨#HE, ⟨⟨Hp, Htodo⟩, Hdone, ⟨%W, HO⟩⟩, HX⟩
    iapply (ht p hp (todo c (p.val + 1)) (not_mem_todo_succ c p) W α k Q) $$ [Hp HO]
    · isplitr; · iexact HE
      isplitl [Hp]; · iexact Hp
      iexact HO
    iintro ⟨Hq, HO⟩
    iapply hk
    isplitr; · iexact HE
    isplitr [HX]
    · isplitl [Htodo]; · iexact Htodo
      isplitl [Hq Hdone]
      · isplitl [Hq]; · iexact Hq
        iexact Hdone
      iexact HO
    iexact HX
  · rw [dif_neg h]
    have hp : c = p := Fin.ext (by by_contra e; exact h (hb.mpr e))
    subst hp
    unfold pass at hk ⊢
    rw [todo_self, ← done_self]
    exact hk

end Cert.KernelIdeal.Exchange

end
-- ==== Proof.TurnsKI.lean ====
/-
The four turns: a barrier signal, a copy, the two waits for a pair of copies, an exit signal.
-/
module

public import proofs.«01_k».proof.Proof.LoopKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The counters of the exchange and what is known of them -/

/-- The kernel's own semaphores: the exit counter, the send counters, the receive counters. -/
abbrev OwnIx : Type := Unit ⊕ (Dev nD ⊕ Dev nD)
/-- All of the exchange's: the barrier counter and those. -/
abbrev CellIx : Type := Unit ⊕ OwnIx

abbrev ownSem : OwnIx → SemLoc sig := Sum.elim (fun _ => .reg exitS) (Sum.elim (fun p => .dma (sendS p)) fun p => .dma (recvS p))
abbrev semOf : CellIx → SemLoc sig := Sum.elim (fun _ => .reg barS) ownSem
abbrev cellAt (x : Dev nD × CellIx) : GSem nD τ sig := ((x.1 : Thread nD τ), semOf x.2)

abbrev ixBar : CellIx := .inl ()
abbrev ixExit : CellIx := .inr (.inl ())
abbrev ixSend (p : Dev nD) : CellIx := .inr (.inr (.inl p))
abbrev ixRecv (p : Dev nD) : CellIx := .inr (.inr (.inr p))

/-- Every counter's invariant, and that its round has begun. -/
def known (K : Dev nD × CellIx → ℕ) : sProp 𝕄 :=
  iprop((bigSep Finset.univ fun x : Dev nD × CellIx => cellInv EX (plan m) (K x) (cellAt x))
    ∗ bigSep Finset.univ fun x : Dev nD × CellIx => reached EX (cellAt x) 0)

instance known_persistent (K : Dev nD × CellIx → ℕ) : BI.Persistent (known m K) := by unfold known; infer_instance

theorem known_inv (K : Dev nD × CellIx → ℕ) (c : Dev nD) (x : CellIx) :
    known m K ⊢ cellInv EX (plan m) (K (c, x)) ((c : Thread nD τ), semOf x) := by
  unfold known
  iintro ⟨H, -⟩
  iapply (show (bigSep Finset.univ fun x : Dev nD × CellIx => cellInv EX (plan m) (K x) (cellAt x)) ⊢ cellInv EX (plan m) (K (c, x)) (cellAt (c, x)) from
    bigSep_elim (Finset.mem_univ (c, x)))
  iexact H
theorem known_reached (K : Dev nD × CellIx → ℕ) (c : Dev nD) (x : CellIx) :
    known m K ⊢ reached EX ((c : Thread nD τ), semOf x) 0 := by
  unfold known
  iintro ⟨-, H⟩
  iapply (show (bigSep Finset.univ fun x : Dev nD × CellIx => (reached EX (cellAt x) 0 : sProp 𝕄)) ⊢ reached EX (cellAt (c, x)) 0 from
    bigSep_elim (Finset.mem_univ (c, x)))
  iexact H

variable (K : Dev nD × CellIx → ℕ) (c : Dev nD)

/-- What the turns use of the counters and the levels. -/
def facts : sProp 𝕄 := iprop(known m K ∗ levAts L lv)
instance facts_persistent : BI.Persistent (facts m K) := by unfold facts; infer_instance

theorem facts_inv (d : Dev nD) (x : CellIx) : facts m K ⊢ cellInv EX (plan m) (K (d, x)) ((d : Thread nD τ), semOf x) := by
  unfold facts; iintro ⟨H, -⟩; iapply (known_inv m K d x); iexact H
theorem facts_reached (d : Dev nD) (x : CellIx) : facts m K ⊢ reached EX ((d : Thread nD τ), semOf x) 0 := by
  unfold facts; iintro ⟨H, -⟩; iapply (known_reached m K d x); iexact H

theorem facts_mayWait_recv (p : Dev nD) : facts m K ⊢ MayWait (c : Thread nD τ) (.dma (recvS p)) () (dueExit (peers c)) := by
  unfold facts; iintro ⟨-, H⟩; iapply (mayWait_recv c p (peers c)); iexact H
theorem facts_mayWait_send (p : Dev nD) : facts m K ⊢ MayWait (c : Thread nD τ) (.dma (sendS p)) () (dueExit (peers c)) := by
  unfold facts; iintro ⟨-, H⟩; iapply (mayWait_send c p (peers c)); iexact H
theorem facts_mayWait_bar : facts m K ⊢ MayWait (c : Thread nD τ) (.reg barS) () (dueExit (peers c) + dueCopy c (peers c)) := by
  unfold facts; iintro ⟨-, H⟩; iapply (mayWait_bar c); iexact H

/-! ## A barrier signal -/

def barAct (p : Dev nD) : Prog (TpuEff nD τ sig (Elt F) Λ₀ .tc) PUnit := semSignalWord (p : Dev nD) barS 1#32
def barUse (p : Dev nD) : sProp 𝕄 := iprop((∃ f, slotPts c p fullShare f) ∗ dutyTok EX (barCell p) 0 c)
def barOwed (S : Finset (Dev nD)) : CellTallies nD τ sig Unit := (dueExit (peers c) + dueCopy c (peers c)) + dueBar S

theorem mem_payers_bar {p c : Dev nD} (h : p ≠ c) : c ∈ payers p .bar := Finset.mem_erase.mpr ⟨h.symm, Finset.mem_univ _⟩
theorem mem_payers_exit {p c : Dev nD} (h : p ≠ c) : c ∈ payers p .exit := Finset.mem_erase.mpr ⟨h.symm, Finset.mem_univ _⟩

/-- The signal to `p` hands `p` the slot numbered `p` of this device's buffer. -/
theorem bar_turn : Turn c (facts m K) (barUse c) (fun _ => iprop(emp)) (barOwed c) (barAct (F := F)) := by
  intro p hp S hS W α k Q
  unfold barUse barOwed barAct
  rw [dueBar_insert hS, ← add_assoc]
  simp only [semSignalWord, Prog.lift, Prog.bind_op, Prog.bind_ret]
  iintro ⟨#HE, ⟨Hslot, Htok⟩, HO⟩ Hk
  iapply (Rounds.wp_signal 𝒱₀ EX (plan m) (c : Thread nD τ) none (dst := (p : Thread nD τ)) (κ := K (p, ixBar)) (r := 0)
      (d := c) (by rw [duties_tc, role_bar]; exact mem_payers_bar hp) ((amount_tc m p _ 0 c).trans (by rw [role_bar]; decide)) ()
      ((dueExit (peers c) + dueCopy c (peers c)) + dueBar S) rfl) $$ [HO Htok Hslot]
  · isplitr; · iapply (facts_inv m K p ixBar); iexact HE
    isplitl [HO]; · iexact HO
    isplitl [Htok]; · iexact Htok
    isplitl [Hslot]
    · rw [payload_tc, role_bar]; unfold goods; iexact Hslot
    iapply (facts_reached m K p ixBar); iexact HE
  iintro HO
  iapply Hk
  isplitr; · iempintro
  iexists W; iexact HO

/-! ## An exit signal -/

def exitAct (p : Dev nD) : Prog (TpuEff nD τ sig (Elt F) Λ₀ .tc) PUnit := semSignalWord (p : Dev nD) exitS 1#32
def exitUse (p : Dev nD) : sProp 𝕄 := dutyTok EX (exitCell p) 0 c

theorem exit_turn : Turn c (facts m K) (exitUse c) (fun _ => iprop(emp)) dueExit (exitAct (F := F)) := by
  intro p hp S hS W α k Q
  unfold exitUse exitAct
  rw [dueExit_insert hS]
  simp only [semSignalWord, Prog.lift, Prog.bind_op, Prog.bind_ret]
  iintro ⟨#HE, Htok, HO⟩ Hk
  iapply (Rounds.wp_signal 𝒱₀ EX (plan m) (c : Thread nD τ) none (dst := (p : Thread nD τ)) (κ := K (p, ixExit)) (r := 0)
      (d := c) (by rw [duties_tc, role_exit]; exact mem_payers_exit hp) ((amount_tc m p _ 0 c).trans (by rw [role_exit]; decide)) ()
      (dueExit S) rfl) $$ [HO Htok]
  · isplitr; · iapply (facts_inv m K p ixExit); iexact HE
    isplitl [HO]; · iexact HO
    isplitl [Htok]; · iexact Htok
    isplitr
    · rw [payload_tc, role_exit]; unfold goods; iempintro
    iapply (facts_reached m K p ixExit); iexact HE
  iintro HO
  iapply Hk
  isplitr; · iempintro
  iexists W; iexact HO

/-! ## A copy -/

/-- The copy of this device's slot to the same slot of device `p`. -/
def sendAct (p : Dev nD) : Prog (TpuEff nD τ sig (Elt F) Λ₀ .tc) PUnit :=
  Prog.lift (.enqueueDma (slotM c) (.remote (Dev.tc p) (slotM c) (.dma (sendS p))) (.dma (recvS c))
    ((View.wordExact_bits rfl).reshape _ _) ((View.wordExact_bits rfl).reshape _ _) ⟨⟨rfl, Or.inl rfl⟩, trivial⟩)
def sendUse (p : Dev nD) : sProp 𝕄 :=
  iprop((∃ f, slotPts p c fullShare f) ∗ slotPts c c (leafOf p) (allParts m) ∗ dutyTok EX (sendCell c p) 0 p ∗ dutyTok EX (recvCell p c) 0 c)
def sendGain (p : Dev nD) : sProp 𝕄 := cred (tallyAt (sendCell c p) () N)
def sendOwed (S : Finset (Dev nD)) : CellTallies nD τ sig Unit := dueExit (peers c) + dueCopy c S

theorem send_turn : Turn c (facts m K) (sendUse m c) (sendGain (F := F) c) (sendOwed c) (sendAct (F := F) c) := by
  intro p hp S hS W α k Q
  unfold sendUse sendGain sendOwed sendAct
  rw [dueCopy_insert c hS, ← add_assoc]
  simp only [Prog.lift, Prog.bind_op, Prog.bind_ret]
  iintro ⟨#HE, ⟨⟨%f, Hdst⟩, Hsrc, HtS, HtR⟩, HO⟩ Hk
  iapply (Rounds.wp_send_pointsTo 𝒱₀ EX (plan m) (c : Thread nD τ) none (κ₁ := K (c, ixSend p)) (κ₂ := K (p, ixRecv c))
    (r₁ := 0) (r₂ := 0) (d₁ := p) (d₂ := c) (fd := f) (fs := allParts m) (q := leafOf p)
    (by rw [duties_tc, role_send, payers_send hp]; exact Finset.mem_singleton_self _)
    (by rw [duties_tc, role_recv, payers_recv hp.symm]; exact Finset.mem_singleton_self _)
    () () N rfl ((amount_tc m c _ 0 p).trans (by rw [role_send]; rfl)) ((amount_tc m p _ 0 c).trans (by rw [role_recv]; rfl))
    (dueExit (peers c) + dueCopy c S) rfl (W := W)
    (by rw [payload_tc, role_send]; exact BI.Entails.refl _)
    (by rw [payload_tc, role_recv]; exact Entails.of_eq (copied p c f (allParts m)))) $$ [Hdst Hsrc HtS HtR HO]
  · isplitr; · iapply (facts_inv m K c (ixSend p)); iexact HE
    isplitr; · iapply (facts_inv m K p (ixRecv c)); iexact HE
    isplitl [Hsrc]; · unfold slotPts; iexact Hsrc
    isplitl [Hdst]; · unfold slotPts; iexact Hdst
    isplitl [HO]; · iexact HO
    isplitl [HtS]; · iexact HtS
    isplitr; · iapply (facts_reached m K c (ixSend p)); iexact HE
    isplitl [HtR]; · iexact HtR
    iapply (facts_reached m K p (ixRecv c)); iexact HE
  iintro ⟨Hcr, HO⟩
  iapply Hk
  isplitl [Hcr]; · iexact Hcr
  iexists W; iexact HO

/-! ## The waits for a pair of copies -/

/-- The wait for device `p`'s copy, -/
def recvWait (p : Dev nD) : Prog (TpuEff nD τ sig (Elt F) Λ₀ .tc) PUnit :=
  Prog.lift (.waitDma2 (recvS p) (slotM p) (slotM p) ((View.wordExact_bits rfl).reshape _ _) ((View.wordExact_bits rfl).reshape _ _))
/-- and for the copy to device `p`. -/
def sendWait (p : Dev nD) : Prog (TpuEff nD τ sig (Elt F) Λ₀ .tc) PUnit :=
  Prog.lift (.waitDma2 (sendS p) (slotM c) (slotM c) ((View.wordExact_bits rfl).reshape _ _) ((View.wordExact_bits rfl).reshape _ _))
def waitAct (p : Dev nD) : Prog (TpuEff nD τ sig (Elt F) Λ₀ .tc) PUnit := recvWait p >>= fun _ => sendWait c p

def waitUse (p : Dev nD) : sProp 𝕄 :=
  iprop((atPos EX (recvCell c p) 0 ∅ 0 ∗ cred (tallyAt (recvCell c p) () N)) ∗ atPos EX (sendCell c p) 0 ∅ 0 ∗ cred (tallyAt (sendCell c p) () N))
def waitGain (p : Dev nD) : sProp 𝕄 :=
  iprop(slotPts c p fullShare (allParts m) ∗ slotPts c c (leafOf p) (allParts m) ∗ semVal (recvCell c p) 0 ∗ semVal (sendCell c p) 0)

/-- Both counters reached, they are closed at zero. -/
theorem wait_turn : Turn c (facts m K) (waitUse (F := F) c) (waitGain m c) (fun _ => dueExit (peers c)) (waitAct (F := F) c) := by
  intro p hp S hS W α k Q
  unfold waitUse waitGain waitAct recvWait sendWait
  simp only [Prog.lift, Prog.bind_op, Prog.bind_ret]
  iintro ⟨#HE, ⟨⟨HaR, HcR⟩, HaS, HcS⟩, HO⟩ Hk
  iapply (Rounds.wp_wait_rest_token 𝒱₀ EX (plan m) (c : Thread nD τ) none (κ := K (c, ixRecv p))
      (wpE_waitDma2_eq 𝒱₀ (c : Thread nD τ) none Set.univ) (Set.mem_univ _) () (O := dueExit (peers c)) (W := W) (R := 0) (m := 0) (T := ∅)
      (by rw [Nat.zero_add, expect_recv m hp])) $$ [HcR HO HaR]
  · isplitr; · iapply (facts_inv m K c (ixRecv p)); iexact HE
    isplitl [HcR]; · iexact HcR
    isplitl [HO]; · iexact HO
    isplitr; · iapply (facts_mayWait_recv m K c p); iexact HE
    iexact HaR
  iintro ⟨HO, HaR, -, HpR⟩
  iapply (Rounds.wp_wait_rest_token 𝒱₀ EX (plan m) (c : Thread nD τ) none (κ := K (c, ixSend p))
      (wpE_waitDma2_eq 𝒱₀ (c : Thread nD τ) none Set.univ) (Set.mem_univ _) () (O := dueExit (peers c)) (R := 0) (m := 0) (T := ∅)
      (by rw [Nat.zero_add, expect_send m hp])) $$ [HcS HO HaS]
  · isplitr; · iapply (facts_inv m K c (ixSend p)); iexact HE
    isplitl [HcS]; · iexact HcS
    isplitl [HO]; · iexact HO
    isplitr; · iapply (facts_mayWait_send m K c p); iexact HE
    iexact HaS
  iintro ⟨HO, HaS, -, HpS⟩
  ihave HpR' := (Entails.of_eq ((round_goods m c (.dma (recvS p))).trans (by rw [role_recv, payers_recv hp, bigSep_singleton]; rfl) :
    _ = slotPts c p fullShare (allParts m))) $$ HpR
  ihave HpS' := (Entails.of_eq ((round_goods m c (.dma (sendS p))).trans (by rw [role_send, payers_send hp, bigSep_singleton]; rfl) :
    _ = slotPts c c (leafOf p) (allParts m))) $$ HpS
  imod (Rounds.cell_close EX (plan m) (Set.mem_univ (K (c, ixRecv p))) (fun h => h) (R := 0 + 1) (duties_later m (recvCell c p))) $$ [HaR] with HzR
  · isplitr; · iapply (facts_inv m K c (ixRecv p)); iexact HE
    iexact HaR
  imod (Rounds.cell_close EX (plan m) (Set.mem_univ (K (c, ixSend p))) (fun h => h) (R := 0 + 1) (duties_later m (sendCell c p))) $$ [HaS] with HzS
  · isplitr; · iapply (facts_inv m K c (ixSend p)); iexact HE
    iexact HaS
  iapply Hk
  isplitr [HO]
  · isplitl [HpR']; · iexact HpR'
    isplitl [HpS']; · iexact HpS'
    isplitl [HzR]; · iexact HzR
    iexact HzS
  iexists _; iexact HO

end Cert.KernelIdeal.Exchange

end
-- ==== Proof.PassesKI.lean ====
/-
The four passes, device by device: each printed turn is the turn of its device, so the pass's invariant moves on
by one.
-/
module

public import proofs.«01_k».proof.Proof.TurnsKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-! ## The printed operations are the turns' -/

theorem bar_at {n : ℕ} (hn : n < nD) (p : Dev nD) (e : n = p.val) :
    (semSignalWord (⟨n, hn⟩ : Dev nD) barS 1#32 : Prog (TpuEff nD τ sig (Elt F) Λ₀ .tc) PUnit) = barAct p := by
  obtain rfl : (⟨n, hn⟩ : Dev nD) = p := Fin.ext e
  rfl
theorem exit_at {n : ℕ} (hn : n < nD) (p : Dev nD) (e : n = p.val) :
    (semSignalWord (⟨n, hn⟩ : Dev nD) exitS 1#32 : Prog (TpuEff nD τ sig (Elt F) Λ₀ .tc) PUnit) = exitAct p := by
  obtain rfl : (⟨n, hn⟩ : Dev nD) = p := Fin.ext e
  rfl

/-- The slot at a stated offset, -/
abbrev slotAt (o : Fin 3 → ℕ) (h : ∀ a, o a + S1x2x1024.size a ≤ S16x2x1024.size a) : Memref sig .tc .vmem S2x1024 .f32 :=
  ((rM : Memref sig .tc .vmem S16x2x1024 .f32).slice (Rect.unit (s := S16x2x1024) o S1x2x1024.size h) (fun _ => rfl)).squeeze S2x1024 squeezes_S1x2x1024_S2x1024
/-- and a counter out of sixteen. -/
abbrev semAt (a : DmaSems sig S16) (o : Fin 1 → ℕ) (h : ∀ b, o b + S1.size b ≤ S16.size b) : DmaSem sig :=
  (a.slice (Rect.unit (s := S16) o S1.size h)).squeeze S_ squeezes_S1_S_ |>.sem

theorem send_at {n : ℕ} (hn : n < nD) (p : Dev nD) (en : n = p.val)
    {os or : Fin 1 → ℕ} {ob : Fin 3 → ℕ} (hs : ∀ b, os b + S1.size b ≤ S16.size b) (hr : ∀ b, or b + S1.size b ≤ S16.size b)
    (hb : ∀ a, ob a + S1x2x1024.size a ≤ S16x2x1024.size a) (es : os = ![p.val]) (er : or = ![c.val]) (eb : ob = ![c.val, 0, 0]) :
    (Prog.lift (.enqueueDma (slotAt ob hb) (.remote (Dev.tc (⟨n, hn⟩ : Dev nD)) (slotAt ob hb) (.dma (semAt cc0_scratch1 os hs)))
      (.dma (semAt cc0_scratch2 or hr)) ((View.wordExact_bits rfl).reshape _ _) ((View.wordExact_bits rfl).reshape _ _)
      ⟨⟨rfl, Or.inl rfl⟩, trivial⟩) : Prog (TpuEff nD τ sig (Elt F) Λ₀ .tc) PUnit) = sendAct c p := by
  obtain rfl : (⟨n, hn⟩ : Dev nD) = p := Fin.ext en
  subst es er eb
  rfl

theorem recvWait_at (p : Dev nD) {o : Fin 1 → ℕ} {ob : Fin 3 → ℕ} (h : ∀ b, o b + S1.size b ≤ S16.size b)
    (hb : ∀ a, ob a + S1x2x1024.size a ≤ S16x2x1024.size a) (e : o = ![p.val]) (eb : ob = ![p.val, 0, 0]) :
    (Prog.lift (.waitDma2 (semAt cc0_scratch2 o h) (slotAt ob hb) (slotAt ob hb) ((View.wordExact_bits rfl).reshape _ _)
      ((View.wordExact_bits rfl).reshape _ _)) : Prog (TpuEff nD τ sig (Elt F) Λ₀ .tc) PUnit) = recvWait p := by
  subst e eb
  rfl
theorem sendWait_at (p : Dev nD) {o : Fin 1 → ℕ} {ob : Fin 3 → ℕ} (h : ∀ b, o b + S1.size b ≤ S16.size b)
    (hb : ∀ a, ob a + S1x2x1024.size a ≤ S16x2x1024.size a) (e : o = ![p.val]) (eb : ob = ![c.val, 0, 0]) :
    (Prog.lift (.waitDma2 (semAt cc0_scratch1 o h) (slotAt ob hb) (slotAt ob hb) ((View.wordExact_bits rfl).reshape _ _)
      ((View.wordExact_bits rfl).reshape _ _)) : Prog (TpuEff nD τ sig (Elt F) Λ₀ .tc) PUnit) = sendWait c p := by
  subst e eb
  rfl

/-! ## The step of each pass -/

abbrev barPass (j : ℕ) : sProp 𝕄 := pass c (barUse c) (fun _ => iprop(emp)) (barOwed c) j
abbrev sendPass (j : ℕ) : sProp 𝕄 := pass c (sendUse m c) (sendGain c) (sendOwed c) j
abbrev waitPass (j : ℕ) : sProp 𝕄 := pass c (waitUse c) (waitGain m c) (fun _ => dueExit (peers c)) j
abbrev exitPass (j : ℕ) : sProp 𝕄 := pass c (exitUse c) (fun _ => iprop(emp)) dueExit j

section Steps
variable {c}
variable {α : Type} {b : BitVec 1} {j : ℕ}

theorem bar_step {k : Prog (TpuEff nD τ sig (Elt F) Λ₀ .tc) α} {Q : α → sProp 𝕄} {X : sProp 𝕄} (hj : j < nD) (hb : b = 1#1 ↔ c.val ≠ j) {n : b = 1#1 → ℕ} {hn : ∀ h, n h < nD} (e : ∀ h, n h = j)
    (hk : iprop(facts m K ∗ barPass c (j + 1) ∗ X) ⊢ run c k Q) :
    iprop(facts m K ∗ barPass c j ∗ X) ⊢ run c (if h : b = 1#1 then (semSignalWord (⟨n h, hn h⟩ : Dev nD) barS 1#32 >>= fun _ => k) else k) Q :=
  pass_step (bar_turn m K c) ⟨j, hj⟩ hb (fun h => bar_at (hn h) ⟨j, hj⟩ (e h)) hk

theorem exit_step {k : Prog (TpuEff nD τ sig (Elt F) Λ₀ .tc) α} {Q : α → sProp 𝕄} {X : sProp 𝕄} (hj : j < nD) (hb : b = 1#1 ↔ c.val ≠ j) {n : b = 1#1 → ℕ} {hn : ∀ h, n h < nD} (e : ∀ h, n h = j)
    (hk : iprop(facts m K ∗ exitPass c (j + 1) ∗ X) ⊢ run c k Q) :
    iprop(facts m K ∗ exitPass c j ∗ X) ⊢ run c (if h : b = 1#1 then (semSignalWord (⟨n h, hn h⟩ : Dev nD) exitS 1#32 >>= fun _ => k) else k) Q :=
  pass_step (exit_turn m K c) ⟨j, hj⟩ hb (fun h => exit_at (hn h) ⟨j, hj⟩ (e h)) hk

theorem send_step {k : Prog (TpuEff nD τ sig (Elt F) Λ₀ .tc) α} {Q : α → sProp 𝕄} {X : sProp 𝕄} (hj : j < nD) (hb : b = 1#1 ↔ c.val ≠ j) {A : b = 1#1 → Prog (TpuEff nD τ sig (Elt F) Λ₀ .tc) PUnit}
    (hA : ∀ h, A h = sendAct c ⟨j, hj⟩) (hk : iprop(facts m K ∗ sendPass m c (j + 1) ∗ X) ⊢ run c k Q) :
    iprop(facts m K ∗ sendPass m c j ∗ X) ⊢ run c (if h : b = 1#1 then (A h >>= fun _ => k) else k) Q :=
  pass_step (send_turn m K c) ⟨j, hj⟩ hb hA hk

theorem wait_step {k : Prog (TpuEff nD τ sig (Elt F) Λ₀ .tc) α} {Q : α → sProp 𝕄} {X : sProp 𝕄} (hj : j < nD) (hb : b = 1#1 ↔ c.val ≠ j) {A B : b = 1#1 → Prog (TpuEff nD τ sig (Elt F) Λ₀ .tc) PUnit}
    (hA : ∀ h, A h = recvWait ⟨j, hj⟩) (hB : ∀ h, B h = sendWait c ⟨j, hj⟩) (hk : iprop(facts m K ∗ waitPass m c (j + 1) ∗ X) ⊢ run c k Q) :
    iprop(facts m K ∗ waitPass m c j ∗ X) ⊢ run c (if h : b = 1#1 then (A h >>= fun _ => B h >>= fun _ => k) else k) Q := by
  have h := pass_step (wait_turn m K c) ⟨j, hj⟩ hb (A := fun h => A h >>= fun _ => B h) (fun h => by rw [hA, hB]; rfl) hk
  have e : (fun h : b = 1#1 => (A h >>= fun _ => B h) >>= fun _ => k) = fun h => A h >>= fun _ => B h >>= fun _ => k :=
    funext fun h => by rw [hA, hB]; rfl
  rw [e] at h
  exact h

/-- A program that is over. -/
theorem run_done {Q : α → sProp 𝕄} {P : sProp 𝕄} {v : α} (h : P ⊢ Q v) : P ⊢ run c (pure v) Q := by
  show P ⊢ wp frame _ Set.univ (.ret v) Q
  rw [wp_ret]
  iintro H
  imodintro
  iapply h
  iexact H

end Steps

end Cert.KernelIdeal.Exchange

end
-- ==== Proof.StagesKI.lean ====
/-
What happens between the passes: the store of the partial sums, the barrier, the gathering of the slots, the store
of the result, the wait for the exits.
-/
module

public import proofs.«01_k».proof.Proof.PassesKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-! ## Whole buffers of device `c` -/

abbrev xPt : sProp 𝕄 := ((c : Thread nD τ).loc cc0_stg0_0) ↦{fullShare} xStg m c
abbrev yPt : sProp 𝕄 := ((c : Thread nD τ).loc cc0_stg1_0) ↦{fullShare} yStg m c
abbrev oPt (f : (cc0_stg2_0 : Ref sig .tc).ty.Contents (Elt F)) : sProp 𝕄 := ((c : Thread nD τ).loc cc0_stg2_0) ↦{fullShare} f
abbrev rPt (f : (cc0_scratch0 : Ref sig .tc).ty.Contents (Elt F)) : sProp 𝕄 := ((c : Thread nD τ).loc cc0_scratch0) ↦{fullShare} f

/-! ## Single operations -/

section Ops
variable {c}
variable {α : Type}

theorem run_deviceId {P : sProp 𝕄} {k : Dev nD → Prog (TpuEff nD τ sig (Elt F) Λ₀ .tc) α} {Q : α → sProp 𝕄} (hk : P ⊢ run c (k c) Q) :
    P ⊢ run c (Prog.lift .deviceId >>= k) Q := by
  simp only [run, Prog.lift, Prog.bind_op, Prog.bind_ret, wp_deviceId]
  exact hk

theorem run_from {P P' : sProp 𝕄} {p : Prog (TpuEff nD τ sig (Elt F) Λ₀ .tc) α} {Q : α → sProp 𝕄} (h : P ⊢ P') (hk : P' ⊢ run c p Q) :
    P ⊢ run c p Q := h.trans hk

theorem run_some {β : Type} {Φ : β → sProp 𝕄} {R : sProp 𝕄} {p : Prog (TpuEff nD τ sig (Elt F) Λ₀ .tc) α} {Q : α → sProp 𝕄}
    (h : ∀ f, iprop(Φ f ∗ R) ⊢ run c p Q) : iprop((∃ f, Φ f) ∗ R) ⊢ run c p Q := by
  iintro ⟨⟨%f, H⟩, HR⟩
  iapply (h f)
  isplitl [H]; · iexact H
  iexact HR

theorem run_load {P R : sProp 𝕄} {Q : α → sProp 𝕄} {cs : CoreSpace} {s : Shape} {e : EltTy} {b : Memref sig .tc cs s e} {r : LoadRect s} {hl : b.view.LoadsAt r}
    {k : (r.shape.Idx → Elt F e) → Prog (TpuEff nD τ sig (Elt F) Λ₀ .tc) α}
    {f : Buf (Elt F) (b.view.loc (c : Thread nD τ))} (hP : P ⊢ iprop((b.view.loc (c : Thread nD τ) ↦{fullShare} f) ∗ R))
    (hk : iprop((b.view.loc (c : Thread nD τ) ↦{fullShare} f) ∗ R) ⊢ run c (k (b.view.readAt (Elt F) r f)) Q) :
    P ⊢ run c (Prog.lift (.load b r hl) >>= k) Q := by
  refine hP.trans ?_
  simp only [Prog.lift, Prog.bind_op, Prog.bind_ret]
  iintro ⟨Hb, HR⟩
  iapply (wp_load 𝒱₀ (c : Thread nD τ) none Set.univ (m := b) (Finset.subset_univ _)) $$ Hb
  iintro Hb
  iapply hk
  isplitl [Hb]; · iexact Hb
  iexact HR

theorem run_store {P R : sProp 𝕄} {Q : α → sProp 𝕄} {cs : CoreSpace} {s : Shape} {e : EltTy} {b : Memref sig .tc cs s e} {r : Rect s} {w : r.shape.Idx → Elt F e}
    {hx : (b.access r).Stores Finset.univ} {hm : (Finset.univ : Finset r.shape.Idx) = Finset.univ ∨ ∀ a, r.stride a = 1}
    {k : Prog (TpuEff nD τ sig (Elt F) Λ₀ .tc) α}
    {f : Buf (Elt F) (b.view.loc (c : Thread nD τ))} (hP : P ⊢ iprop((b.view.loc (c : Thread nD τ) ↦{fullShare} f) ∗ R))
    (hk : iprop((b.view.loc (c : Thread nD τ) ↦{fullShare} ((b.access r).write (Elt F) f w Finset.univ)) ∗ R) ⊢ run c k Q) :
    P ⊢ run c (Prog.lift (.store b r w Finset.univ hx hm) >>= fun _ => k) Q := by
  refine hP.trans ?_
  simp only [Prog.lift, Prog.bind_op, Prog.bind_ret]
  iintro ⟨Hb, HR⟩
  iapply (wp_store 𝒱₀ (c : Thread nD τ) none Set.univ (m := b) (r := r) (Mk := Finset.univ) (Finset.subset_univ _)) $$ Hb
  iintro Hb
  iapply hk
  isplitl [Hb]; · iexact Hb
  iexact HR

end Ops

/-! ## What the loads read and the stores leave -/

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl

omit [FloatOps F] in
theorem read_x (f : (cc0_stg0_0 : Ref sig .tc).ty.Contents (Elt F)) :
    (xM : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg0_0 hz2 _ f
omit [FloatOps F] in
theorem read_y (f : (cc0_stg1_0 : Ref sig .tc).ty.Contents (Elt F)) :
    (yM : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg1_0 hz2 _ f
omit [FloatOps F] in
theorem read_r (f : (cc0_scratch0 : Ref sig .tc).ty.Contents (Elt F)) :
    (rM : Memref sig .tc .vmem S16x2x1024 .f32).view.readAt (Elt F) (Rect.unit (s := S16x2x1024) ![0, 0, 0] S16x2x1024.size inb_S16x2x1024_S16x2x1024_0_0_0).toLoadRect f = f :=
  Memref.readAt_unit_zero (Elt F) cc0_scratch0 hz3 _ f
omit [FloatOps F] in
theorem write_o (f w : (cc0_stg2_0 : Ref sig .tc).ty.Contents (Elt F)) :
    ((oM : Memref sig .tc .vmem S2x1024 .f32).access (Rect.unit (s := S2x1024) ![0, 0] S2x1024.size inb_S2x1024_S2x1024_0_0) : View sig .tc _ _ _).write (Elt F) f w Finset.univ = w :=
  Memref.write_access_unit_zero_univ (Elt F) cc0_stg2_0 hz2 _ f w

omit [FloatOps F] in
/-- The other slots, whatever they hold. -/
theorem some_slots (f : (cc0_scratch0 : Ref sig .tc).ty.Contents (Elt F)) :
    (bigSep (peers c) fun p => slotPts c p fullShare f : sProp 𝕄) ⊢ bigSep (peers c) fun p => iprop(∃ f, slotPts c p fullShare f) := by
  refine bigSep_mono fun p _ => ?_
  show slotPts c p fullShare f ⊢ iprop(∃ f, slotPts (F := F) c p fullShare f)
  iintro H
  iexists f
  iexact H

/-- Device `c`'s partial sums stored, its own slot holds them for everyone and the other slots hold something. -/
theorem own_stored (f : (cc0_scratch0 : Ref sig .tc).ty.Contents (Elt F)) {o : Fin 3 → ℕ} (h : ∀ a, o a + S1x2x1024.size a ≤ S16x2x1024.size a)
    (e : o = ![c.val, 0, 0]) :
    (rPt c (((rM : Memref sig .tc .vmem S16x2x1024 .f32).access (Rect.unit (s := S16x2x1024) o S1x2x1024.size h) : View sig .tc _ _ _).write (Elt F) f
        (k0_pay1 (xStg m c) (yStg m c)) Finset.univ) : sProp 𝕄)
      ⊢ iprop(slotPts c c fullShare (allParts m) ∗ bigSep (peers c) fun p => iprop(∃ f, slotPts c p fullShare f)) := by
  subst e
  show rPt c (((rM : Memref sig .tc .vmem S16x2x1024 .f32).access (slotR c) : View sig .tc _ _ _).write (Elt F) f (part m c) Finset.univ) ⊢ _
  unfold rPt
  rw [buffer_slots, bigSep_univ_at _ c]
  iintro ⟨H, Hs⟩
  isplitl [H]
  · ihave H := (Entails.of_eq (stored m c f)) $$ [H]
    · unfold slotPts; iexact H
    iexact H
  · iapply (some_slots c _)
    iexact Hs

/-! ## From the store to the barrier's pass -/

/-- What the barrier's pass starts from. -/
theorem bar_start :
    iprop((bigSep (peers c) fun p => iprop(∃ f, slotPts (F := F) c p fullShare f)) ∗ (bigSep (peers c) fun p => dutyTok EX (barCell p) 0 c)
        ∗ ∃ W : Waits sig Unit, owes (c : Thread nD τ) (O₀ c) W)
      ⊢ barPass (F := F) c 0 := by
  unfold barPass pass barUse
  rw [todo_zero, done_zero, bigSep_sep', bigSep_empty]
  iintro ⟨Hs, Ht, HO⟩
  isplitl [Hs Ht]
  · isplitl [Hs]; · iexact Hs
    iexact Ht
  isplitr; · iempintro
  iexact HO

/-! ## The barrier's wait -/

/-- What a device holds for it, and for the copies after it. -/
def barHold : sProp 𝕄 :=
  iprop((atPos EX (barCell c) 0 ∅ 0 ∗ cred (tallyAt (barCell c) () 15))
    ∗ (bigSep (peers c) fun p => slotPts c c (leafOf p) (allParts m))
    ∗ (bigSep (peers c) fun p => dutyTok EX (sendCell c p) 0 p) ∗ bigSep (peers c) fun p => dutyTok EX (recvCell p c) 0 c)

/-- Every device having signalled, device `c` holds its slot of every other device's buffer, and copies. -/
theorem bar_wait {α : Type} {k : Prog (TpuEff nD τ sig (Elt F) Λ₀ .tc) α} {Q : α → sProp 𝕄} {X : sProp 𝕄}
    (hk : iprop(facts m K ∗ sendPass m c 0 ∗ (semVal (barCell c) 0 ∗ X)) ⊢ run c k Q) :
    iprop(facts m K ∗ barPass c 16 ∗ (barHold m c ∗ X)) ⊢ run c (semWaitWord barS 15#32 >>= fun _ => k) Q := by
  unfold barPass pass barHold barOwed
  rw [todo_end, done_end, bigSep_empty, show dueBar ∅ = 0 from dues_empty _ _, add_zero]
  simp only [semWaitWord, Prog.lift, Prog.bind_op, Prog.bind_ret]
  iintro ⟨#HE, ⟨-, -, ⟨%W, HO⟩⟩, ⟨⟨Hat, Hcr⟩, Hl, HtS, HtR⟩, HX⟩
  iapply (Rounds.wp_wait_rest_token 𝒱₀ EX (plan m) (c : Thread nD τ) none (κ := K (c, ixBar))
      (wpE_semWait_eq 𝒱₀ (c : Thread nD τ) none Set.univ) (Set.mem_univ _) () (O := dueExit (peers c) + dueCopy c (peers c)) (W := W) (R := 0) (m := 0) (T := ∅)
      (by rw [expect_bar]; decide)) $$ [Hcr HO Hat]
  · isplitr; · iapply (facts_inv m K c ixBar); iexact HE
    isplitl [Hcr]; · iexact Hcr
    isplitl [HO]; · iexact HO
    isplitr; · iapply (facts_mayWait_bar m K c); iexact HE
    iexact Hat
  iintro ⟨HO, Hat, -, Hp⟩
  ihave Hp' := (Entails.of_eq ((round_goods m c (.reg barS)).trans (by rw [role_bar]; rfl) :
    _ = bigSep (peers c) fun d => iprop(∃ f, slotPts (F := F) d c fullShare f))) $$ Hp
  imod (Rounds.cell_close EX (plan m) (Set.mem_univ (K (c, ixBar))) (fun h => h) (R := 0 + 1) (duties_later m (barCell c))) $$ [Hat] with Hz
  · isplitr; · iapply (facts_inv m K c ixBar); iexact HE
    iexact Hat
  iapply hk
  isplitr; · iexact HE
  isplitr [Hz HX]
  · unfold sendPass pass sendUse sendOwed
    rw [todo_zero, done_zero, bigSep_empty, bigSep_sep', bigSep_sep', bigSep_sep']
    isplitr [HO]
    · isplitl [Hp']; · iexact Hp'
      isplitl [Hl]; · iexact Hl
      isplitl [HtS]; · iexact HtS
      iexact HtR
    isplitr; · iempintro
    iexists _; iexact HO
  isplitl [Hz]; · iexact Hz
  iexact HX

/-! ## From the copies to their waits -/

/-- What a device holds for the waits besides the copies' own credits. -/
def waitHold : sProp 𝕄 :=
  iprop((bigSep (peers c) fun p => iprop(atPos EX (recvCell c p) 0 ∅ 0 ∗ cred (tallyAt (recvCell c p) () N)))
    ∗ bigSep (peers c) fun p => atPos EX (sendCell c p) 0 ∅ 0)

theorem wait_start : iprop(sendPass m c 16 ∗ waitHold c) ⊢ waitPass m c 0 := by
  unfold sendPass waitPass pass waitHold waitUse sendGain sendOwed
  rw [todo_end, done_end, todo_zero, done_zero, bigSep_empty, bigSep_empty, bigSep_sep' (peers c) (fun p => iprop(atPos EX (recvCell c p) 0 ∅ 0 ∗ _)), bigSep_sep' (peers c) (fun p => atPos EX (sendCell c p) 0 ∅ 0),
    show dueCopy c ∅ = 0 from dues_empty _ _, add_zero]
  iintro ⟨⟨-, Hs, HO⟩, Hr, Ha⟩
  isplitr [HO]
  · isplitl [Hr]; · iexact Hr
    isplitl [Ha]; · iexact Ha
    iexact Hs
  isplitr; · iempintro
  iexact HO

/-! ## The slots gathered -/

theorem gathered :
    iprop(waitPass m c 16 ∗ slotPts c c (leafOf c) (allParts m))
      ⊢ iprop(rPt c (allParts m) ∗ (bigSep (peers c) fun p => iprop(semVal (recvCell c p) 0 ∗ semVal (sendCell c p) 0))
          ∗ ∃ W : Waits sig Unit, owes (c : Thread nD τ) (dueExit (peers c)) W) := by
  unfold waitPass pass waitGain rPt
  rw [todo_end, done_end, bigSep_empty, bigSep_sep', bigSep_sep', buffer_slots, bigSep_univ_at _ c, slot_leaves, bigSep_univ_at (fun p => slotPts c c (leafOf p) (allParts m)) c]
  iintro ⟨⟨-, ⟨Hs, Hl, Hz⟩, HO⟩, Hc⟩
  isplitl [Hs Hl Hc]
  · isplitl [Hl Hc]
    · isplitl [Hc]; · iexact Hc
      iexact Hl
    iexact Hs
  isplitl [Hz]; · iexact Hz
  iexact HO

/-! ## The exit's pass and wait -/

theorem exit_start :
    iprop((bigSep (peers c) fun p => dutyTok EX (exitCell p) 0 c) ∗ ∃ W : Waits sig Unit, owes (c : Thread nD τ) (dueExit (peers c)) W) ⊢ exitPass (F := F) c 0 := by
  unfold exitPass pass exitUse
  rw [todo_zero, done_zero, bigSep_empty]
  iintro ⟨Ht, HO⟩
  isplitl [Ht]; · iexact Ht
  isplitr; · iempintro
  iexact HO

/-- Every device having signalled its exit, nothing is owed and the counter is closed at zero. -/
theorem exit_wait {α : Type} {k : Prog (TpuEff nD τ sig (Elt F) Λ₀ .tc) α} {Q : α → sProp 𝕄} {X : sProp 𝕄}
    (hk : iprop(facts m K ∗ (∃ W : Waits sig Unit, owes (c : Thread nD τ) 0 W) ∗ (semVal (exitCell c) 0 ∗ X)) ⊢ run c k Q) :
    iprop(facts m K ∗ exitPass c 16 ∗ ((atPos EX (exitCell c) 0 ∅ 0 ∗ cred (tallyAt (exitCell c) () 15)) ∗ X))
      ⊢ run c (semWaitWord exitS 15#32 >>= fun _ => k) Q := by
  unfold exitPass pass
  rw [todo_end, done_end, bigSep_empty, show dueExit ∅ = 0 from dues_empty _ _]
  simp only [semWaitWord, Prog.lift, Prog.bind_op, Prog.bind_ret]
  iintro ⟨#HE, ⟨-, -, ⟨%W, HO⟩⟩, ⟨Hat, Hcr⟩, HX⟩
  iapply (Rounds.wp_wait_rest_token 𝒱₀ EX (plan m) (c : Thread nD τ) none (κ := K (c, ixExit))
      (wpE_semWait_eq 𝒱₀ (c : Thread nD τ) none Set.univ) (Set.mem_univ _) () (O := 0) (W := W) (R := 0) (m := 0) (T := ∅)
      (by rw [expect_exit]; decide)) $$ [Hcr HO Hat]
  · isplitr; · iapply (facts_inv m K c ixExit); iexact HE
    isplitl [Hcr]; · iexact Hcr
    isplitl [HO]; · iexact HO
    isplitr; · rw [MayWait_zero]; iempintro
    iexact Hat
  iintro ⟨HO, Hat, -, -⟩
  imod (Rounds.cell_close EX (plan m) (Set.mem_univ (K (c, ixExit))) (fun h => h) (R := 0 + 1) (duties_later m (exitCell c))) $$ [Hat] with Hz
  · isplitr; · iapply (facts_inv m K c ixExit); iexact HE
    iexact Hat
  iapply hk
  isplitr; · iexact HE
  isplitl [HO]; · iexists _; iexact HO
  isplitl [Hz]; · iexact Hz
  iexact HX

end Cert.KernelIdeal.Exchange

end
-- ==== Proof.PartsKI.lean ====
/-
Device `c`'s run through each printed part of the kernel.
-/
module

public import proofs.«01_k».proof.Proof.StagesKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- What the first part uses. -/
def headHold : sProp 𝕄 :=
  iprop(xPt m c ∗ yPt m c ∗ (∃ f, rPt (F := F) c f) ∗ (bigSep (peers c) fun p => dutyTok EX (barCell p) 0 c)
    ∗ ∃ W : Waits sig Unit, owes (c : Thread nD τ) (O₀ c) W)

set_option maxRecDepth 8000 in
/-- The partial sums are computed and stored, and device 0 is signalled. -/
theorem run_part1 {Q : (Σ' (d0 : Dev nD) (v2 : BitVec 32) (v34 : Sems sig S_), BitVec 1) → sProp 𝕄} {X : sProp 𝕄}
    (h : ∀ v2 v38, iprop(facts m K ∗ barPass c 1 ∗ (slotPts c c fullShare (allParts m) ∗ xPt m c ∗ yPt m c ∗ X)) ⊢ Q ⟨c, v2, SemArray.scalar (sig.barrier 0 rfl), v38⟩) :
    iprop(facts m K ∗ (headHold m c ∗ X)) ⊢ run c (k0_part1 xM (Memref.isWhole_whole _) yM (Memref.isWhole_whole _) oM (Memref.isWhole_whole _)
      rM (Memref.isWhole_whole _) cc0_scratch1 cc0_scratch2 cc0_scoped0) Q := by
  rw [k0_part1_eq_skeleton]; unfold k0_part1_skel
  refine run_deviceId ?_
  refine run_load (f := xStg m c) (R := iprop(facts m K ∗ yPt m c ∗ (∃ f, rPt (F := F) c f) ∗ (bigSep (peers c) fun p => dutyTok EX (barCell p) 0 c)
    ∗ (∃ W : Waits sig Unit, owes (c : Thread nD τ) (O₀ c) W) ∗ X)) ?_ ?_
  · unfold headHold
    iintro ⟨HE, ⟨Hx, Hy, Hr, Ht, HO⟩, HX⟩
    isplitl [Hx]; · iexact Hx
    isplitl [HE]; · iexact HE
    isplitl [Hy]; · iexact Hy
    isplitl [Hr]; · iexact Hr
    isplitl [Ht]; · iexact Ht
    isplitl [HO]; · iexact HO
    iexact HX
  refine run_load (f := yStg m c) (R := iprop(facts m K ∗ xPt m c ∗ (∃ f, rPt (F := F) c f) ∗ (bigSep (peers c) fun p => dutyTok EX (barCell p) 0 c)
    ∗ (∃ W : Waits sig Unit, owes (c : Thread nD τ) (O₀ c) W) ∗ X)) ?_ ?_
  · iintro ⟨Hx, HE, Hy, Hr, Ht, HO, HX⟩
    isplitl [Hy]; · iexact Hy
    isplitl [HE]; · iexact HE
    isplitl [Hx]; · iexact Hx
    isplitl [Hr]; · iexact Hr
    isplitl [Ht]; · iexact Ht
    isplitl [HO]; · iexact HO
    iexact HX
  rw [read_x, read_y]
  refine run_from (P' := iprop((∃ f, rPt (F := F) c f) ∗ (facts m K ∗ xPt m c ∗ yPt m c ∗ (bigSep (peers c) fun p => dutyTok EX (barCell p) 0 c)
    ∗ (∃ W : Waits sig Unit, owes (c : Thread nD τ) (O₀ c) W) ∗ X))) ?_ ?_
  · iintro ⟨Hy, HE, Hx, Hr, Ht, HO, HX⟩
    isplitl [Hr]; · iexact Hr
    isplitl [HE]; · iexact HE
    isplitl [Hx]; · iexact Hx
    isplitl [Hy]; · iexact Hy
    isplitl [Ht]; · iexact Ht
    isplitl [HO]; · iexact HO
    iexact HX
  refine run_some fun f => ?_
  refine run_load (BI.Entails.refl _) ?_
  refine run_store (BI.Entails.refl _) ?_
  refine run_from (P' := iprop(facts m K ∗ barPass c 0 ∗ (slotPts c c fullShare (allParts m) ∗ xPt m c ∗ yPt m c ∗ X))) ?_ ?_
  · iintro ⟨Hr, HE, Hx, Hy, Ht, HO, HX⟩
    ihave Hr := (own_stored m c f (k0_off1_inb c) (k0_off1_eq c)) $$ Hr
    icases Hr with ⟨Hc, Hs⟩
    isplitl [HE]; · iexact HE
    isplitl [Hs Ht HO]
    · iapply (bar_start c)
      isplitl [Hs]; · iexact Hs
      isplitl [Ht]; · iexact Ht
      iexact HO
    isplitl [Hc]; · iexact Hc
    isplitl [Hx]; · iexact Hx
    isplitl [Hy]; · iexact Hy
    iexact HX
  refine bar_step m K ?_ ?_ ?_ ?_; decide; (clear * - c; revert c; decide); (intro _; decide)
  exact run_done (h _ _)

set_option maxRecDepth 8000 in
/-- Devices 1 to 10 are signalled. -/
theorem run_part2 {v2 : BitVec 32} {v38 : BitVec 1} {Q : BitVec 1 → sProp 𝕄} {X : sProp 𝕄}
    (h : ∀ v, iprop(facts m K ∗ barPass c 11 ∗ X) ⊢ Q v) :
    iprop(facts m K ∗ barPass c 1 ∗ X) ⊢ run c (k0_part2 xM (Memref.isWhole_whole _) yM (Memref.isWhole_whole _) oM (Memref.isWhole_whole _)
      rM (Memref.isWhole_whole _) cc0_scratch1 cc0_scratch2 cc0_scoped0 c v2 (SemArray.scalar (sig.barrier 0 rfl)) v38) Q := by
  rw [k0_part2_eq_skeleton]; unfold k0_part2_skel
  iterate 10 (refine bar_step m K ?_ ?_ ?_ ?_; decide; (clear * - c; revert c; decide); (intro _; decide))
  exact run_done (h _)

set_option maxRecDepth 8000 in
/-- The rest are signalled, all signals are awaited, and the first four copies start. -/
theorem run_part3 {v2 : BitVec 32} {v68 : BitVec 1} {Q : PUnit → sProp 𝕄} {X : sProp 𝕄}
    (h : iprop(facts m K ∗ sendPass m c 4 ∗ (semVal (barCell c) 0 ∗ X)) ⊢ Q ⟨⟩) :
    iprop(facts m K ∗ barPass c 11 ∗ (barHold m c ∗ X)) ⊢ run c (k0_part3 xM (Memref.isWhole_whole _) yM (Memref.isWhole_whole _) oM (Memref.isWhole_whole _)
      rM (Memref.isWhole_whole _) cc0_scratch1 cc0_scratch2 cc0_scoped0 c v2 (SemArray.scalar (sig.barrier 0 rfl)) v68) Q := by
  rw [k0_part3_eq_skeleton]; unfold k0_part3_skel
  iterate 5 (refine bar_step m K ?_ ?_ ?_ ?_; decide; (clear * - c; revert c; decide); (intro _; decide))
  refine bar_wait m K c ?_
  iterate 4 (refine send_step m K ?_ ?_ ?_ ?_; decide; (clear * - c; revert c; decide); exact fun _ => send_at c _ _ (by decide) _ _ _ rfl (by clear * - c; revert c; decide) (by clear * - c; revert c; decide))
  exact run_done h

set_option maxRecDepth 8000 in
/-- Ten more copies start. -/
theorem run_part4 {v2 : BitVec 32} {Q : PUnit → sProp 𝕄} {X : sProp 𝕄}
    (h : iprop(facts m K ∗ sendPass m c 14 ∗ X) ⊢ Q ⟨⟩) :
    iprop(facts m K ∗ sendPass m c 4 ∗ X) ⊢ run c (k0_part4 xM (Memref.isWhole_whole _) yM (Memref.isWhole_whole _) oM (Memref.isWhole_whole _)
      rM (Memref.isWhole_whole _) cc0_scratch1 cc0_scratch2 cc0_scoped0 c v2) Q := by
  rw [k0_part4_eq_skeleton]; unfold k0_part4_skel
  iterate 10 (refine send_step m K ?_ ?_ ?_ ?_; decide; (clear * - c; revert c; decide); exact fun _ => send_at c _ _ (by decide) _ _ _ rfl (by clear * - c; revert c; decide) (by clear * - c; revert c; decide))
  exact run_done h

set_option maxRecDepth 8000 in
/-- The last copies start, and the copies to and from the first eight devices are awaited. -/
theorem run_part5 {v2 : BitVec 32} {Q : PUnit → sProp 𝕄} {X : sProp 𝕄}
    (h : iprop(facts m K ∗ waitPass m c 8 ∗ X) ⊢ Q ⟨⟩) :
    iprop(facts m K ∗ sendPass m c 14 ∗ (waitHold c ∗ X)) ⊢ run c (k0_part5 xM (Memref.isWhole_whole _) yM (Memref.isWhole_whole _) oM (Memref.isWhole_whole _)
      rM (Memref.isWhole_whole _) cc0_scratch1 cc0_scratch2 cc0_scoped0 c v2) Q := by
  rw [k0_part5_eq_skeleton]; unfold k0_part5_skel
  iterate 2 (refine send_step m K ?_ ?_ ?_ ?_; decide; (clear * - c; revert c; decide); exact fun _ => send_at c _ _ (by decide) _ _ _ rfl (by clear * - c; revert c; decide) (by clear * - c; revert c; decide))
  refine run_from (P' := iprop(facts m K ∗ waitPass m c 0 ∗ X)) ?_ ?_
  · iintro ⟨HE, Hs, Hw, HX⟩
    isplitl [HE]; · iexact HE
    isplitl [Hs Hw]
    · iapply (wait_start m c); isplitl [Hs] <;> iassumption
    iexact HX
  iterate 8 (refine wait_step m K ?_ ?_ ?_ ?_ ?_; decide; (clear * - c; revert c; decide); exact fun _ => recvWait_at _ _ _ rfl rfl; exact fun _ => sendWait_at c _ _ _ rfl (by clear * - c; revert c; decide))
  exact run_done h

end Cert.KernelIdeal.Exchange

end
-- ==== Proof.TailKI.lean ====
/-
Device `c`'s run through the kernel's last parts, and through the whole.
-/
module

public import proofs.«01_k».proof.Proof.PartsKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CellIx → ℕ) (c : Dev nD)

/-- What gathering the slots and storing the result uses. -/
def gatherHold : sProp 𝕄 :=
  iprop(slotPts c c (leafOf c) (allParts m) ∗ (∃ f, oPt (F := F) c f) ∗ bigSep (peers c) fun p => dutyTok EX (exitCell p) 0 c)
/-- What it leaves. -/
def gatherGain : sProp 𝕄 :=
  iprop(rPt c (allParts m) ∗ oPt c (total m) ∗ bigSep (peers c) fun p => iprop(semVal (recvCell c p) 0 ∗ semVal (sendCell c p) 0))

/-- The slots are added up and the sum is stored. -/
theorem gather_store {α : Type} {k : Prog (TpuEff nD τ sig (Elt F) Λ₀ .tc) α} {Q : α → sProp 𝕄} {X : sProp 𝕄}
    (hk : iprop(facts m K ∗ exitPass c 0 ∗ (gatherGain m c ∗ X)) ⊢ run c k Q) :
    iprop(facts m K ∗ waitPass m c 16 ∗ (gatherHold m c ∗ X))
      ⊢ run c (Prog.lift (.load rM (Rect.unit (s := S16x2x1024) ![0, 0, 0] S16x2x1024.size inb_S16x2x1024_S16x2x1024_0_0_0).toLoadRect (View.loadsAt_vmem h_S16x2x1024)) >>= fun v =>
          Prog.lift (.load oM (Rect.unit (s := S2x1024) ![0, 0] S2x1024.size inb_S2x1024_S2x1024_0_0).toLoadRect (View.loadsAt_vmem h_S2x1024)) >>= fun _ =>
          Prog.lift (.store oM (Rect.unit (s := S2x1024) ![0, 0] S2x1024.size inb_S2x1024_S2x1024_0_0) (k0_pay2 v) Finset.univ (View.stores_vmem_bits_univ h_S2x1024 rfl) (.inl rfl)) >>= fun _ => k) Q := by
  refine run_load (f := allParts m) (R := iprop((∃ f, oPt (F := F) c f) ∗ (facts m K ∗ exitPass c 0
    ∗ (bigSep (peers c) fun p => iprop(semVal (recvCell c p) 0 ∗ semVal (sendCell c p) 0)) ∗ X))) ?_ ?_
  · unfold gatherHold
    iintro ⟨HE, Hw, ⟨Hc, Ho, Ht⟩, HX⟩
    ihave Hw := (gathered m c) $$ [Hw Hc]
    · isplitl [Hw] <;> iassumption
    icases Hw with ⟨Hr, Hz, HO⟩
    isplitl [Hr]; · iexact Hr
    isplitl [Ho]; · iexact Ho
    isplitl [HE]; · iexact HE
    isplitl [Ht HO]
    · iapply (exit_start c); isplitl [Ht] <;> iassumption
    isplitl [Hz]; · iexact Hz
    iexact HX
  rw [read_r]
  refine run_from (P' := iprop((∃ f, oPt (F := F) c f) ∗ (facts m K ∗ exitPass c 0
    ∗ (rPt c (allParts m) ∗ (bigSep (peers c) fun p => iprop(semVal (recvCell c p) 0 ∗ semVal (sendCell c p) 0)) ∗ X)))) ?_ ?_
  · iintro ⟨Hr, Ho, HE, Hp, Hz, HX⟩
    isplitl [Ho]; · iexact Ho
    isplitl [HE]; · iexact HE
    isplitl [Hp]; · iexact Hp
    isplitl [Hr]; · iexact Hr
    isplitl [Hz]; · iexact Hz
    iexact HX
  refine run_some fun f => ?_
  refine run_load (BI.Entails.refl _) ?_
  refine run_store (BI.Entails.refl _) ?_
  rw [write_o]
  refine run_from (P' := iprop(facts m K ∗ exitPass c 0 ∗ (gatherGain m c ∗ X))) ?_ hk
  · unfold gatherGain
    iintro ⟨Ho, HE, Hp, Hr, Hz, HX⟩
    isplitl [HE]; · iexact HE
    isplitl [Hp]; · iexact Hp
    isplitr [HX]
    · isplitl [Hr]; · iexact Hr
      isplitl [Ho]; · iexact Ho
      iexact Hz
    iexact HX

set_option maxRecDepth 8000 in
/-- The remaining copies are awaited, the slots are added up and the result is stored, and device 0 is signalled. -/
theorem run_part6 {v2 : BitVec 32} {Q : BitVec 32 → sProp 𝕄} {X : sProp 𝕄}
    (h : ∀ v, iprop(facts m K ∗ exitPass c 1 ∗ (gatherGain m c ∗ X)) ⊢ Q v) :
    iprop(facts m K ∗ waitPass m c 8 ∗ (gatherHold m c ∗ X)) ⊢ run c (k0_part6 xM (Memref.isWhole_whole _) yM (Memref.isWhole_whole _) oM (Memref.isWhole_whole _)
      rM (Memref.isWhole_whole _) cc0_scratch1 cc0_scratch2 cc0_scoped0 c v2) Q := by
  rw [k0_part6_eq_skeleton]; unfold k0_part6_skel
  iterate 8 (refine wait_step m K ?_ ?_ ?_ ?_ ?_; decide; (clear * - c; revert c; decide); exact fun _ => recvWait_at _ _ _ rfl rfl; exact fun _ => sendWait_at c _ _ _ rfl (by clear * - c; revert c; decide))
  refine gather_store m K c ?_
  iterate 1 (refine exit_step m K ?_ ?_ ?_ ?_; decide; (clear * - c; revert c; decide); (intro _; decide))
  exact run_done (h _)

set_option maxRecDepth 8000 in
/-- Devices 1 to 10 are signalled. -/
theorem run_part7 {v2 w : BitVec 32} {Q : BitVec 32 → sProp 𝕄} {X : sProp 𝕄}
    (h : ∀ v, iprop(facts m K ∗ exitPass c 11 ∗ X) ⊢ Q v) :
    iprop(facts m K ∗ exitPass c 1 ∗ X) ⊢ run c (k0_part7 xM (Memref.isWhole_whole _) yM (Memref.isWhole_whole _) oM (Memref.isWhole_whole _)
      rM (Memref.isWhole_whole _) cc0_scratch1 cc0_scratch2 cc0_scoped0 c v2 w) Q := by
  rw [k0_part7_eq_skeleton]; unfold k0_part7_skel
  iterate 10 (refine exit_step m K ?_ ?_ ?_ ?_; decide; (clear * - c; revert c; decide); (intro _; decide))
  exact run_done (h _)

/-- A part followed by the rest: the rest runs from what the part leaves. -/
theorem run_then {α β : Type} {P : sProp 𝕄} {p : Prog (TpuEff nD τ sig (Elt F) Λ₀ .tc) α} {k : α → Prog (TpuEff nD τ sig (Elt F) Λ₀ .tc) β}
    {Q : β → sProp 𝕄} (h : P ⊢ run c p fun a => run c (k a) Q) : P ⊢ run c (p >>= k) Q := by
  show P ⊢ wp frame _ Set.univ (p >>= k) Q
  rw [wp_bind]
  exact h

/-- What a device's whole run uses besides what it knows. -/
def bodyHold : sProp 𝕄 :=
  iprop(headHold m c
    ∗ (atPos EX (barCell c) 0 ∅ 0 ∗ cred (tallyAt (barCell c) () 15))
    ∗ ((bigSep (peers c) fun p => dutyTok EX (sendCell c p) 0 p) ∗ bigSep (peers c) fun p => dutyTok EX (recvCell p c) 0 c)
    ∗ waitHold c
    ∗ ((∃ f, oPt (F := F) c f) ∗ bigSep (peers c) fun p => dutyTok EX (exitCell p) 0 c)
    ∗ (atPos EX (exitCell c) 0 ∅ 0 ∗ cred (tallyAt (exitCell c) () 15)))
/-- What it leaves. -/
def bodyGain : sProp 𝕄 :=
  iprop(xPt m c ∗ yPt m c ∗ gatherGain m c ∗ semVal (barCell c) 0 ∗ semVal (exitCell c) 0 ∗ ∃ W : Waits sig Unit, owes (c : Thread nD τ) 0 W)

theorem body_end {X : sProp 𝕄} :
    iprop(facts m K ∗ (∃ W : Waits sig Unit, owes (c : Thread nD τ) 0 W) ∗ (semVal (exitCell c) 0 ∗ gatherGain m c ∗ semVal (barCell c) 0 ∗ xPt m c ∗ yPt m c ∗ X))
      ⊢ iprop(facts m K ∗ bodyGain m c ∗ X) := by
  unfold bodyGain
  iintro ⟨HE, HO, Hz, Hg, Hb, Hx, Hy, HX⟩
  isplitl [HE]; · iexact HE
  isplitr [HX]
  · isplitl [Hx]; · iexact Hx
    isplitl [Hy]; · iexact Hy
    isplitl [Hg]; · iexact Hg
    isplitl [Hb]; · iexact Hb
    isplitl [Hz]; · iexact Hz
    iexact HO
  iexact HX

set_option maxRecDepth 8000 in
set_option maxHeartbeats 1000000 in
/-- The whole kernel on device `c`. -/
theorem run_body {Q : PUnit → sProp 𝕄} {X : sProp 𝕄}
    (h : iprop(facts m K ∗ bodyGain m c ∗ X) ⊢ Q ⟨⟩) :
    iprop(facts m K ∗ bodyHold m c ∗ X) ⊢ run c (cc0_body xM (Memref.isWhole_whole _) yM (Memref.isWhole_whole _) oM (Memref.isWhole_whole _)
      rM (Memref.isWhole_whole _) cc0_scratch1 cc0_scratch2 cc0_scoped0) Q := by
  rw [cc0_body_eq_skeleton]; unfold cc0_body_skel
  refine run_from (P' := iprop(facts m K ∗ (headHold m c ∗ ((atPos EX (barCell c) 0 ∅ 0 ∗ cred (tallyAt (barCell c) () 15))
    ∗ ((bigSep (peers c) fun p => dutyTok EX (sendCell c p) 0 p) ∗ bigSep (peers c) fun p => dutyTok EX (recvCell p c) 0 c)
    ∗ waitHold c
    ∗ ((∃ f, oPt (F := F) c f) ∗ bigSep (peers c) fun p => dutyTok EX (exitCell p) 0 c)
    ∗ (atPos EX (exitCell c) 0 ∅ 0 ∗ cred (tallyAt (exitCell c) () 15)) ∗ X)))) ?_ ?_
  · unfold bodyHold
    iintro ⟨HE, ⟨Hh, Hb, Ht, Hw, Ho, He⟩, HX⟩
    isplitl [HE]; · iexact HE
    isplitl [Hh]; · iexact Hh
    isplitl [Hb]; · iexact Hb
    isplitl [Ht]; · iexact Ht
    isplitl [Hw]; · iexact Hw
    isplitl [Ho]; · iexact Ho
    isplitl [He]; · iexact He
    iexact HX
  refine run_then c (run_part1 m K c fun v2 v38 => ?_)
  refine run_then c (run_part2 m K c fun v68 => ?_)
  refine run_from (P' := iprop(facts m K ∗ barPass c 11 ∗ (barHold m c ∗ (waitHold c ∗ (gatherHold m c
    ∗ ((atPos EX (exitCell c) 0 ∅ 0 ∗ cred (tallyAt (exitCell c) () 15)) ∗ xPt m c ∗ yPt m c ∗ X)))))) ?_ ?_
  · unfold barHold gatherHold
    rw [slot_leaves, bigSep_univ_at _ c]
    iintro ⟨HE, Hp, ⟨Hc, Hl⟩, Hx, Hy, Hb, ⟨HtS, HtR⟩, Hw, ⟨Ho, Ht⟩, He, HX⟩
    isplitl [HE]; · iexact HE
    isplitl [Hp]; · iexact Hp
    isplitl [Hb Hl HtS HtR]
    · isplitl [Hb]; · iexact Hb
      isplitl [Hl]; · iexact Hl
      isplitl [HtS]; · iexact HtS
      iexact HtR
    isplitl [Hw]; · iexact Hw
    isplitl [Hc Ho Ht]
    · isplitl [Hc]; · iexact Hc
      isplitl [Ho]; · iexact Ho
      iexact Ht
    isplitl [He]; · iexact He
    isplitl [Hx]; · iexact Hx
    isplitl [Hy]; · iexact Hy
    iexact HX
  refine run_then c (run_part3 m K c ?_)
  beta_reduce
  refine run_then c (run_part4 m K c ?_)
  refine run_from (P' := iprop(facts m K ∗ sendPass m c 14 ∗ (waitHold c ∗ (gatherHold m c
    ∗ ((atPos EX (exitCell c) 0 ∅ 0 ∗ cred (tallyAt (exitCell c) () 15)) ∗ semVal (barCell c) 0 ∗ xPt m c ∗ yPt m c ∗ X))))) ?_ ?_
  · iintro ⟨HE, Hp, Hz, Hw, Hg, He, Hx, Hy, HX⟩
    isplitl [HE]; · iexact HE
    isplitl [Hp]; · iexact Hp
    isplitl [Hw]; · iexact Hw
    isplitl [Hg]; · iexact Hg
    isplitl [He]; · iexact He
    isplitl [Hz]; · iexact Hz
    isplitl [Hx]; · iexact Hx
    isplitl [Hy]; · iexact Hy
    iexact HX
  refine run_then c (run_part5 m K c ?_)
  beta_reduce
  refine run_then c (run_part6 m K c fun v => ?_)
  beta_reduce
  refine run_then c (run_part7 m K c fun v => ?_)
  iterate 5 (refine exit_step m K ?_ ?_ ?_ ?_; decide; (clear * - c; revert c; decide); (intro _; decide))
  refine run_from (P' := iprop(facts m K ∗ exitPass c 16 ∗ ((atPos EX (exitCell c) 0 ∅ 0 ∗ cred (tallyAt (exitCell c) () 15))
    ∗ (gatherGain m c ∗ semVal (barCell c) 0 ∗ xPt m c ∗ yPt m c ∗ X)))) ?_ ?_
  · iintro ⟨HE, Hp, Hg, He, H⟩
    isplitl [HE]; · iexact HE
    isplitl [Hp]; · iexact Hp
    isplitl [He]; · iexact He
    isplitl [Hg]; · iexact Hg
    iexact H
  exact exit_wait m K c (run_done ((body_end m K c).trans h))

end Cert.KernelIdeal.Exchange

end
-- ==== Proof.BodyKI.lean ====
/-
The kernel on one device, between the staging of its blocks and the writing back of its result.
-/
module

public import proofs.«01_k».proof.Proof.TailKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## What a device holds before and after -/

/-- The right to pay every other device's counters and this device's own send counters. -/
def payHold : sProp 𝕄 :=
  iprop((bigSep (peers c) fun p => dutyTok EX (barCell p) 0 c) ∗ (bigSep (peers c) fun p => dutyTok EX (exitCell p) 0 c)
    ∗ (bigSep (peers c) fun p => dutyTok EX (sendCell c p) 0 p) ∗ bigSep (peers c) fun p => dutyTok EX (recvCell p c) 0 c)
/-- The right to wait on this device's counters, -/
def atHold : sProp 𝕄 :=
  iprop(atPos EX (barCell c) 0 ∅ 0 ∗ atPos EX (exitCell c) 0 ∅ 0
    ∗ (bigSep (peers c) fun p => atPos EX (sendCell c p) 0 ∅ 0) ∗ bigSep (peers c) fun p => atPos EX (recvCell c p) 0 ∅ 0)
/-- and what the others owe them. -/
def credHold : sProp 𝕄 :=
  iprop(cred (tallyAt (barCell c) () 15) ∗ cred (tallyAt (exitCell c) () 15) ∗ bigSep (peers c) fun p => cred (tallyAt (recvCell c p) () N))
/-- The send and receive counters that a device keeps for itself are never used. -/
def selfZero : sProp 𝕄 := iprop(semVal (sendCell c c) 0 ∗ semVal (recvCell c c) 0)

/-- What a device enters the kernel with besides its buffers. -/
def start : sProp 𝕄 := iprop((∃ K, facts m K) ∗ payHold c ∗ atHold c ∗ credHold c ∗ selfZero c)
/-- All of the device's counters at zero. -/
def zeros : sProp 𝕄 :=
  iprop(semVal (barCell c) 0 ∗ semVal (exitCell c) 0 ∗ (bigSep (peers c) fun p => iprop(semVal (recvCell c p) 0 ∗ semVal (sendCell c p) 0)) ∗ selfZero c)

/-- Before the kernel. -/
def before : sProp 𝕄 := iprop(start m c ∗ ∃ f, rPt (F := F) c f)
/-- After it: everyone's partial sums in the exchange buffer, every counter at zero. -/
def after : sProp 𝕄 := iprop(rPt c (allParts m) ∗ zeros c)

/-! ## The staging of one launch -/

theorem cfg0_one : cfg0.N = 1 := by decide
def t₀ : Fin cfg0.N := ⟨0, by rw [cfg0_one]; decide⟩
theorem only_t (t : Fin cfg0.N) : t = t₀ := by
  obtain ⟨t, ht⟩ := t
  have := cfg0_one
  exact Fin.ext (by simp only [t₀]; omega)

/-- The arrays as launched, the staged blocks after the kernel, what is held before and after. -/
def dats (_ : Fin 1) (c : Dev nD) : Dat τ (Elt F) Unit ℕ UU ℕ cfg0 c where
  A w := m ((cfg0.win w).arr.view.loc (c : Thread nD τ))
  after w _ := match w with
    | ⟨0, _⟩ => xStg m c
    | ⟨1, _⟩ => yStg m c
    | ⟨2, _⟩ => total m
  Φ t := match t with
    | ⟨0, _⟩ => before m c
    | ⟨_ + 1, _⟩ => after m c
  q _ := fullShare
  owed t := match t with
    | ⟨0, _⟩ => O₀ c
    | ⟨_ + 1, _⟩ => 0

/-- A staging buffer held whole at known contents. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the staging hands the kernel, -/
def bodyIn : sProp 𝕄 :=
  iprop(before m c ∗ (dats m 0 c).owesAt () t₀.castSucc
    ∗ (∃ d, stg c cc0_stg0_0 ((dats m 0 c).before (0 : Fin 3) t₀ d))
    ∗ (∃ d, stg c cc0_stg1_0 ((dats m 0 c).before (1 : Fin 3) t₀ d))
    ∗ (∃ d, stg c cc0_stg2_0 ((dats m 0 c).before (2 : Fin 3) t₀ d)))
/-- and takes back. -/
def bodyOut : sProp 𝕄 :=
  iprop(after m c ∗ (dats m 0 c).owesAt () t₀.succ ∗ stg c cc0_stg0_0 (xStg m c) ∗ stg c cc0_stg1_0 (yStg m c) ∗ stg c cc0_stg2_0 (total m))

theorem staged_x (d) : (dats m 0 c).before (0 : Fin 3) t₀ d = xStg m c := by
  unfold Dat.before; rw [if_pos (fetch0_0 t₀)]; rfl
theorem staged_y (d) : (dats m 0 c).before (1 : Fin 3) t₀ d = yStg m c := by
  unfold Dat.before; rw [if_pos (fetch0_1 t₀)]; rfl

/-- The staging hands over what the kernel uses. -/
theorem body_in : bodyIn m c ⊢ iprop(∃ K, facts m K ∗ bodyHold m c ∗ selfZero c) := by
  unfold bodyIn before start payHold atHold credHold Dat.owesAt Pipeline.owesWithin
  rw [show (dats m 0 c).owed t₀.castSucc = O₀ c from rfl]
  iintro ⟨⟨⟨⟨%K, HE⟩, ⟨HtB, HtX, HtS, HtR⟩, ⟨HaB, HaX, HaS, HaR⟩, ⟨HcB, HcX, HcR⟩, Hz⟩, Hr⟩, ⟨%W, %hW, HO⟩, ⟨%dx, %fx, %hx, Hx⟩, ⟨%dy, %fy, %hy, Hy⟩, ⟨%dz, %fz, %hz, Ho⟩⟩
  rw [staged_x] at hx
  rw [staged_y] at hy
  subst hx hy
  iexists K
  isplitl [HE]; · iexact HE
  isplitr [Hz]
  · unfold bodyHold headHold waitHold
    rw [bigSep_sep' (peers c) (fun p => (atPos EX (recvCell c p) 0 ∅ 0 : sProp 𝕄))]
    isplitl [Hx Hy Hr HtB HO]
    · isplitl [Hx]; · iexact Hx
      isplitl [Hy]; · iexact Hy
      isplitl [Hr]; · iexact Hr
      isplitl [HtB]; · iexact HtB
      iexists W; iexact HO
    isplitl [HaB HcB]
    · isplitl [HaB]; · iexact HaB
      iexact HcB
    isplitl [HtS HtR]
    · isplitl [HtS]; · iexact HtS
      iexact HtR
    isplitl [HaR HcR HaS]
    · isplitl [HaR HcR]
      · isplitl [HaR]; · iexact HaR
        iexact HcR
      iexact HaS
    isplitl [Ho HtX]
    · isplitl [Ho]; · (iexists _; iexact Ho)
      iexact HtX
    isplitl [HaX]; · iexact HaX
    iexact HcX
  iexact Hz

/-- The kernel leaves what the staging takes back. -/
theorem body_out {K : Dev nD × CellIx → ℕ} : iprop(facts m K ∗ bodyGain m c ∗ selfZero c) ⊢ bodyOut m c := by
  unfold bodyOut after zeros bodyGain gatherGain Dat.owesAt Pipeline.owesWithin
  rw [show (dats m 0 c).owed t₀.succ = 0 from rfl]
  iintro ⟨-, ⟨Hx, Hy, ⟨Hr, Ho, HzP⟩, HzB, HzX, ⟨%W, HO⟩⟩, Hz⟩
  isplitl [Hr HzP HzB HzX Hz]
  · isplitl [Hr]; · iexact Hr
    isplitl [HzB]; · iexact HzB
    isplitl [HzX]; · iexact HzX
    isplitl [HzP]; · iexact HzP
    iexact Hz
  isplitl [HO]
  · iexists W
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Ho

theorem body_run : bodyIn m c ⊢ run c (cc0_body xM (Memref.isWhole_whole _) yM (Memref.isWhole_whole _) oM (Memref.isWhole_whole _)
      rM (Memref.isWhole_whole _) cc0_scratch1 cc0_scratch2 cc0_scoped0) (fun _ => bodyOut m c) := by
  refine run_from (body_in m c) ?_
  iintro ⟨%K, H⟩
  iapply (run_body m K c (body_out m c))
  iexact H

set_option maxRecDepth 4000 in
/-- The kernel meets its part of the launch. -/
theorem body_obligation : BodyObligation (dats (F := F) m 0 c) (defs₀ (F := F)) 𝒱₀ () Set.univ := fun t => by
  rw [only_t t, bigSep_W0, bigSep_W0]
  simp only [owns_whole_eq]
  exact body_run m c

end Cert.KernelIdeal.Exchange

end
-- ==== Proof.DealKI.lean ====
/-
How the launch deals every device its positions and the right to pay the others' counters.
-/
module

public import proofs.«01_k».proof.Proof.BodyKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Counters and rights, listed -/

/-- A separate conjunction over the kernel's own semaphores, kind by kind; -/
theorem bigSep_own {M : Type} [URA M] (Φ : OwnIx → sProp M) :
    bigSep Finset.univ Φ = iprop(Φ (.inl ()) ∗ (bigSep Finset.univ fun p => Φ (.inr (.inl p))) ∗ bigSep Finset.univ fun p => Φ (.inr (.inr p))) := by
  rw [bigSep_univ_sum, bigSep_univ_sum, Finset.univ_unique, bigSep_singleton]; rfl
/-- over all counters. -/
theorem bigSep_cells {M : Type} [URA M] (Φ : CellIx → sProp M) :
    bigSep Finset.univ Φ = iprop(Φ ixBar ∗ Φ ixExit ∗ (bigSep Finset.univ fun p => Φ (ixSend p)) ∗ bigSep Finset.univ fun p => Φ (ixRecv p)) := by
  rw [bigSep_univ_sum, Finset.univ_unique, bigSep_singleton, bigSep_own]; rfl

/-- The role of each counter. -/
def roleAt : CellIx → Role := Sum.elim (fun _ => .bar) (Sum.elim (fun _ => .exit) (Sum.elim Role.send Role.recv))
theorem role_semOf (x : CellIx) : role (semOf x) = roleAt x := by
  rcases x with ⟨⟩ | ⟨⟨⟩ | p | p⟩
  · exact role_bar
  · exact role_exit
  · exact role_send p
  · exact role_recv p

theorem semOf_injective : Function.Injective semOf := by
  intro x y h
  have hr : roleAt x = roleAt y := by rw [← role_semOf, ← role_semOf, h]
  rcases x with ⟨⟩ | ⟨⟨⟩ | p | p⟩ <;> rcases y with ⟨⟩ | ⟨⟨⟩ | q | q⟩ <;>
    first | rfl | (cases hr; rfl) | cases hr

theorem cellAt_injective : Function.Injective cellAt := by
  rintro ⟨c, x⟩ ⟨d, y⟩ h
  have hc : c = d := congrArg (fun g : GSem nD τ sig => g.1.1) h
  have hx : x = y := semOf_injective (congrArg Prod.snd h)
  rw [hc, hx]
def cells : Finset (GSem nD τ sig) := Finset.univ.map ⟨cellAt, cellAt_injective⟩

/-- The rights to pay device `c`'s counters: barrier, exit, send, receive, each named by a device. -/
abbrev rightOf (x : Dev nD × (Fin 4 × Dev nD)) : GSem nD τ sig × ℕ × Dev nD := match x.2.1 with
  | 0 => (barCell x.1, 0, x.2.2)
  | 1 => (exitCell x.1, 0, x.2.2)
  | 2 => (sendCell x.1 x.2.2, 0, x.2.2)
  | 3 => (recvCell x.1 x.2.2, 0, x.2.2)
/-- The counter that a right is for. -/
def rightIx (j : Fin 4) (p : Dev nD) : CellIx := match j with
  | 0 => ixBar
  | 1 => ixExit
  | 2 => ixSend p
  | 3 => ixRecv p
theorem rightOf_injective : Function.Injective rightOf := by
  rintro ⟨c, j, p⟩ ⟨d, k, q⟩ h
  have hc : c = d := by
    have := congrArg (fun x : GSem nD τ sig × ℕ × Dev nD => x.1.1.1) h
    fin_cases j <;> fin_cases k <;> exact this
  have hp : p = q := by
    have := congrArg (fun x : GSem nD τ sig × ℕ × Dev nD => x.2.2) h
    fin_cases j <;> fin_cases k <;> exact this
  subst hc hp
  have hx : rightIx j p = rightIx k p := semOf_injective (by
    have := congrArg (fun x : GSem nD τ sig × ℕ × Dev nD => x.1.2) h
    fin_cases j <;> fin_cases k <;> exact this)
  fin_cases j <;> fin_cases k <;> first | rfl | cases hx
def rights : Finset (GSem nD τ sig × ℕ × Dev nD) := Finset.univ.map ⟨rightOf, rightOf_injective⟩

def u₀ : UU := (initOf (Pipeline.cells cfgs cellOf_inj) (Pipeline.launchToks cfgs cellOf_inj), initOf cells rights)

/-! ## What the launch deals -/

/-- The rights to pay device `c`'s counters, -/
def minted (c : Dev nD) : sProp 𝕄 :=
  iprop((bigSep Finset.univ fun p => dutyTok EX (barCell c) 0 p) ∗ (bigSep Finset.univ fun p => dutyTok EX (exitCell c) 0 p)
    ∗ (bigSep Finset.univ fun p => dutyTok EX (sendCell c p) 0 p) ∗ bigSep Finset.univ fun p => dutyTok EX (recvCell c p) 0 p)
/-- its counters' positions, -/
def places (c : Dev nD) : sProp 𝕄 := bigSep Finset.univ fun x : CellIx => atPos EX (cellAt (c, x)) 0 ∅ 0
/-- and both with the counters' states. -/
def dealt (c : Dev nD) : sProp 𝕄 :=
  iprop((bigSep Finset.univ fun x : CellIx => roundState EX (plan m) (cellAt (c, x)) 0)
    ∗ (bigSep Finset.univ fun x : CellIx => reached EX (cellAt (c, x)) 0) ∗ places c ∗ minted c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem bigSep_at_cells (Φ : GSem nD τ sig → sProp 𝕄) :
    bigSep cells Φ = bigSep Finset.univ fun c : Dev nD => bigSep Finset.univ fun x : CellIx => Φ (cellAt (c, x)) := by
  unfold cells; rw [bigSep_map, bigSep_univ_prod]; rfl
omit [FloatOps F] in
theorem bigSep_at_rights :
    bigSep rights (fun x => (dutyTok EX x.1 x.2.1 x.2.2 : sProp 𝕄)) = bigSep Finset.univ fun c : Dev nD => minted c := by
  unfold rights
  rw [bigSep_map, bigSep_univ_prod]
  refine bigSep_congr fun c _ => ?_
  unfold minted
  rw [bigSep_univ_prod, bigSep_fin4]; rfl

theorem fund_exchange : BI.own (EX (initOf cells rights)) ⊢ (|==> bigSep Finset.univ (dealt m) : sProp 𝕄) := by
  iintro H
  imod (Rounds.fund EX (plan m) cells rights) $$ H with ⟨Hs, Hr, Ha, Ht⟩
  imodintro
  ihave Hs := (Entails.of_eq (bigSep_at_cells fun g => roundState EX (plan m) g 0)) $$ Hs
  ihave Hr := (Entails.of_eq (bigSep_at_cells fun g => reached EX g 0)) $$ Hr
  ihave Ha := (Entails.of_eq (bigSep_at_cells fun g => atPos EX g 0 ∅ 0)) $$ Ha
  ihave Ht := (Entails.of_eq bigSep_at_rights) $$ Ht
  unfold dealt places
  simp only [bigSep_sep']
  isplitl [Hs]; · iexact Hs
  isplitl [Hr]; · iexact Hr
  isplitl [Ha]; · iexact Ha
  iexact Ht

/-! ## The semaphores -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
theorem ownSems0_eq (c : Dev nD) : (Pipeline.ownSems0 (Ix := Unit) (Name := ℕ) (U := UU) (Lvl := ℕ) (Val := Elt F) (τ := τ) ownSem c : sProp 𝕄)
    = iprop(semVal (exitCell c) 0 ∗ (bigSep Finset.univ fun p => semVal (sendCell c p) 0) ∗ bigSep Finset.univ fun p => semVal (recvCell c p) 0) := by
  unfold Pipeline.ownSems0; rw [bigSep_own]; rfl

omit [FloatOps F] in
theorem sems_cells (c : Dev nD) :
    iprop(Pipeline.ownSems0 (Ix := Unit) (Name := ℕ) (U := UU) (Lvl := ℕ) (Val := Elt F) (τ := τ) ownSem c ∗ unscopedSems0 c)
      ⊢ (bigSep Finset.univ fun x : CellIx => semVal (cellAt (c, x)) 0 : sProp 𝕄) := by
  rw [ownSems0_eq, unscopedSems0_eq, bigSep_cells]
  iintro ⟨H, HB⟩
  isplitl [HB]; · iexact HB
  iexact H

/-! ## The counters' invariants, and the rights in the payers' hands -/

/-- Each of a device's counters gets an invariant. -/
theorem open_cells (c : Dev nD) :
    iprop(Pipeline.ownSems0 (Ix := Unit) (Name := ℕ) (U := UU) (Lvl := ℕ) (Val := Elt F) (τ := τ) ownSem c ∗ unscopedSems0 c ∗ dealt m c)
      ⊢ |={Set.univ}=> iprop((bigSep Finset.univ fun x : CellIx => iprop(∃ κ : ℕ, cellInv EX (plan m) κ (cellAt (c, x))))
          ∗ (bigSep Finset.univ fun x : CellIx => reached EX (cellAt (c, x)) 0) ∗ places c ∗ minted c) := by
  unfold dealt
  iintro ⟨Hos, Hus, Hs, H⟩
  ihave Hv := (sems_cells (F := F) c) $$ [Hos Hus]
  · isplitl [Hos] <;> iassumption
  imod (show iprop((bigSep Finset.univ fun x : CellIx => semVal (cellAt (c, x)) 0) ∗ bigSep Finset.univ fun x : CellIx => roundState EX (plan m) (cellAt (c, x)) 0)
      ⊢ (|={Set.univ}=> bigSep Finset.univ fun x : CellIx => iprop(∃ κ : ℕ, cellInv EX (plan m) κ (cellAt (c, x))) : sProp 𝕄) from by
        rw [← bigSep_sep']
        exact (bigSep_mono fun x _ => (Rounds.body_intro EX (plan m) (cellAt (c, x))).trans inv_alloc).trans (bigSep_fupd _ _)) $$ [Hv Hs] with HI
  · isplitl [Hv] <;> iassumption
  imodintro
  isplitl [HI]; · iexact HI
  iexact H

omit [FloatOps F] in
theorem to_peers {M : Type} [URA M] (c : Dev nD) (Φ : Dev nD → sProp M) : bigSep Finset.univ Φ ⊢ bigSep (peers c) Φ :=
  bigSep_subset (Finset.erase_subset _ _)

omit [FloatOps F] in
theorem minted_peers (c : Dev nD) : minted c ⊢ (iprop((bigSep (peers c) fun p => dutyTok EX (barCell c) 0 p) ∗ (bigSep (peers c) fun p => dutyTok EX (exitCell c) 0 p)
    ∗ (bigSep (peers c) fun p => dutyTok EX (sendCell c p) 0 p) ∗ bigSep (peers c) fun p => dutyTok EX (recvCell c p) 0 p) : sProp 𝕄) := by
  unfold minted
  exact BI.sep_mono (to_peers c _) (BI.sep_mono (to_peers c _) (BI.sep_mono (to_peers c _) (to_peers c _)))

omit [FloatOps F] in
/-- Every right goes from the counter's device to the device that pays it. -/
theorem hand_out : (bigSep Finset.univ fun c : Dev nD => (minted c : sProp 𝕄)) ⊢ bigSep Finset.univ fun c : Dev nD => payHold c := by
  refine (bigSep_mono fun c _ => minted_peers c).trans ?_
  unfold payHold
  rw [bigSep_sep', bigSep_sep', bigSep_sep', bigSep_sep', bigSep_sep', bigSep_sep',
    bigSep_erase_comm (fun c p : Dev nD => (dutyTok EX (barCell c) 0 p : sProp 𝕄)),
    bigSep_erase_comm (fun c p : Dev nD => (dutyTok EX (exitCell c) 0 p : sProp 𝕄)),
    bigSep_erase_comm (fun c p : Dev nD => (dutyTok EX (recvCell c p) 0 p : sProp 𝕄))]
  exact BI.Entails.refl _

/-- What a device knows, its positions, and its rights. -/
def opened (c : Dev nD) : sProp 𝕄 := iprop((∃ K, known m K) ∗ places c ∗ payHold c)

/-- Knowledge that everybody shares goes to everybody. -/
theorem share_known (K : Dev nD × CellIx → ℕ) (Φ : Dev nD → sProp 𝕄) :
    iprop(known m K ∗ bigSep Finset.univ Φ) ⊢ bigSep Finset.univ fun c => iprop((∃ K, known m K) ∗ Φ c) := by
  rw [bigSep_sep']
  refine sep_mono_left ((BI.bigSep_of_persistent Finset.univ (known m K)).trans (bigSep_mono fun c _ => ?_))
  show known m K ⊢ iprop(∃ K, known m K)
  iintro H; iexists K; iexact H

theorem gather_known :
    (bigSep Finset.univ fun c : Dev nD => iprop((bigSep Finset.univ fun x : CellIx => iprop(∃ κ : ℕ, cellInv EX (plan m) κ (cellAt (c, x))))
          ∗ (bigSep Finset.univ fun x : CellIx => reached EX (cellAt (c, x)) 0) ∗ places c ∗ minted c) : sProp 𝕄)
      ⊢ bigSep Finset.univ (opened m) := by
  rw [bigSep_sep', bigSep_sep', bigSep_sep', ← bigSep_univ_prod (fun x : Dev nD × CellIx => iprop(∃ κ : ℕ, cellInv EX (plan m) κ (cellAt x))),
    ← bigSep_univ_prod (fun x : Dev nD × CellIx => (reached EX (cellAt x) 0 : sProp 𝕄))]
  iintro ⟨HI, HR, Hat, Ht⟩
  ihave HK := (BI.bigSep_exists_pi Finset.univ (fun (x : Dev nD × CellIx) (κ : ℕ) => (cellInv EX (plan m) κ (cellAt x) : sProp 𝕄))) $$ HI
  icases HK with ⟨%K, HI⟩
  ihave Ht := (hand_out (F := F)) $$ Ht
  iapply (show iprop(known m K ∗ bigSep Finset.univ fun c => iprop(places c ∗ payHold c)) ⊢ bigSep Finset.univ (opened m) from
    (share_known m K _).trans (by unfold opened; exact BI.Entails.refl _))
  isplitl [HI HR]
  · unfold known
    isplitl [HI]; · iexact HI
    iexact HR
  rw [bigSep_sep']
  isplitl [Hat]; · iexact Hat
  iexact Ht

/-- All devices together, from their semaphores and what the launch deals. -/
theorem open_all : (bigSep Finset.univ fun c => iprop(Pipeline.ownSems0 (Ix := Unit) (Name := ℕ) (U := UU) (Lvl := ℕ) (Val := Elt F) (τ := τ) ownSem c ∗ unscopedSems0 c ∗ dealt m c) : sProp 𝕄)
    ⊢ |={Set.univ}=> bigSep Finset.univ (opened m) :=
  ((bigSep_mono fun c _ => open_cells m c).trans (bigSep_fupd _ _)).trans (BI.fupd_mono (gather_known m))

end Cert.KernelIdeal.Exchange

end
-- ==== Proof.CreditsKI.lean ====
/-
What the others owe a device's counters at the launch.
-/
module

public import proofs.«01_k».proof.Proof.DealKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Sums over who owes what -/

theorem bar_cell_eq {a b : Dev nD} : barCell a = barCell b ↔ a = b :=
  ⟨fun h => congrArg (fun g : GSem nD τ sig => g.1.1) h, fun h => h ▸ rfl⟩
theorem exit_cell_eq {a b : Dev nD} : exitCell a = exitCell b ↔ a = b :=
  ⟨fun h => congrArg (fun g : GSem nD τ sig => g.1.1) h, fun h => h ▸ rfl⟩
theorem recv_cell_eq {a b p q : Dev nD} : recvCell a p = recvCell b q ↔ a = b ∧ p = q := by
  constructor
  · intro h
    refine ⟨congrArg (fun g : GSem nD τ sig => g.1.1) h, ?_⟩
    have hr := congrArg (fun g : GSem nD τ sig => role g.2) h
    simp only [role_recv] at hr
    exact Role.recv.inj hr
  · rintro ⟨rfl, rfl⟩; rfl

/-- Every other device owes `c` one payment of `n`. -/
theorem sum_peers (f : Dev nD → GSem nD τ sig) (hf : ∀ a b, f a = f b ↔ a = b) (n : ℕ) (c : Dev nD) :
    (∑ d : Dev nD, dues f n (peers d) (f c) ()) = 15 * n := by
  have h (d : Dev nD) : dues f n (peers d) (f c) () = if d = c then 0 else n := by
    rw [dues_apply, Finset.sum_congr rfl fun p _ => if_congr (hf c p) rfl rfl, Finset.sum_ite_eq]
    by_cases hd : d = c
    · rw [if_pos hd, if_neg (by rw [hd]; exact Finset.notMem_erase c _)]
    · rw [if_neg hd, if_pos (Finset.mem_erase.mpr ⟨Ne.symm hd, Finset.mem_univ _⟩)]
  rw [Finset.sum_congr rfl fun d _ => h d, ← Finset.add_sum_erase _ _ (Finset.mem_univ c), if_pos rfl, Nat.zero_add,
    Finset.sum_congr rfl fun d hd => if_neg (Finset.ne_of_mem_erase hd), Finset.sum_const, card_peers, smul_eq_mul]

/-- Device `p` alone owes receive counter `p` of `c`. -/
theorem sum_copies {c p : Dev nD} (hp : p ≠ c) : (∑ d : Dev nD, dueCopy d (peers d) (recvCell c p) ()) = N := by
  have h (d : Dev nD) : dueCopy d (peers d) (recvCell c p) () = if d = p then N else 0 := by
    rw [dues_apply]
    by_cases hd : d = p
    · subst hd
      rw [if_pos rfl, Finset.sum_congr rfl fun q _ => if_congr (recv_cell_eq.trans (and_iff_left rfl)) rfl rfl, Finset.sum_ite_eq,
        if_pos (Finset.mem_erase.mpr ⟨hp.symm, Finset.mem_univ _⟩)]
    · rw [if_neg hd]
      exact Finset.sum_eq_zero fun q _ => if_neg fun hq => hd (recv_cell_eq.mp hq).2.symm
  rw [Finset.sum_congr rfl fun d _ => h d, Finset.sum_ite_eq', if_pos (Finset.mem_univ _)]

/-- A counter's launch credit, from the sum of what is owed it. -/
theorem credit_eq (O : Dev nD → CellTallies nD τ sig Unit) (g : GSem nD τ sig) (n : ℕ) (h : (∑ d : Dev nD, O d g ()) = n) :
    tallyOn g (launchCredit (Pipeline.owing O) 0 g) = (tallyAt g () n : CellTallies nD τ sig Unit) := by
  unfold tallyAt
  refine congrArg _ (Finsupp.ext fun u => ?_)
  cases u
  rw [Pipeline.launchCredit_owing, Finsupp.single_eq_same, h]

/-! ## A device's credit -/

omit [FloatOps F] in
theorem cred_one (c : Dev nD) (s : SemLoc sig) (n : ℕ) (O : Dev nD → CellTallies nD τ sig Unit)
    (h : (∑ d : Dev nD, O d ((c : Thread nD τ), s) ()) = n) :
    (Pipeline.launchCred O c : sProp 𝕄) ⊢ cred (tallyAt ((c : Thread nD τ), s) () n) := by
  rw [← credit_eq O _ n h]
  exact Pipeline.launchCred_elim O c s

theorem recv_injective : Function.Injective fun p : Dev nD => (SemLoc.dma (recvS p) : SemLoc sig) := fun p q h => by
  have hr := congrArg role h
  simp only [role_recv] at hr
  exact Role.recv.inj hr

omit [FloatOps F] in
theorem cred_copies (c : Dev nD) :
    (Pipeline.launchCred (fun d => dueCopy d (peers d)) c : sProp 𝕄) ⊢ bigSep (peers c) fun p => cred (tallyAt (recvCell c p) () N) := by
  unfold Pipeline.launchCred
  refine (bigSep_subset (Finset.subset_univ ((peers c).map ⟨_, recv_injective⟩))).trans ?_
  rw [bigSep_map]
  exact Entails.of_eq (bigSep_congr fun p hp => congrArg cred (credit_eq _ _ _ (sum_copies (Finset.ne_of_mem_erase hp))))

omit [FloatOps F] in
/-- What the launch credits a device with. -/
theorem cred_start (c : Dev nD) : (Pipeline.launchCred O₀ c : sProp 𝕄) ⊢ credHold c := by
  rw [show O₀ = fun d => (fun d => (fun d => dueExit (peers d)) d + (fun d => dueCopy d (peers d)) d) d + (fun d => dueBar (peers d)) d from rfl,
    Pipeline.launchCred_add, Pipeline.launchCred_add]
  unfold credHold
  iintro ⟨⟨HX, HC⟩, HB⟩
  isplitl [HB]
  · iapply (cred_one (F := F) c (.reg barS) 15 _ (sum_peers barCell (fun _ _ => bar_cell_eq) 1 c)); iexact HB
  isplitl [HX]
  · iapply (cred_one (F := F) c (.reg exitS) 15 _ (sum_peers exitCell (fun _ _ => exit_cell_eq) 1 c)); iexact HX
  iapply (cred_copies (F := F) c); iexact HC

end Cert.KernelIdeal.Exchange

end
-- ==== Proof.LaunchKI.lean ====
/-
The whole run: on every device, from any memory with every counter at zero.
-/
module

public import Idealize.ShloMosaic.Lib.Pipeline.CollectiveSegs
public import proofs.«01_k».proof.Proof.CreditsKI

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec ownSem := by decide

theorem share_eq (c : Dev nD) (w : Fin cfg0.W) : (dats m 0 c).share w = fullShare := by unfold Dat.share; split <;> rfl

/-! ## Entering and leaving -/

/-- The argument that no window stages. -/
abbrev restPt (c : Dev nD) : sProp 𝕄 := ((c : Thread nD τ).loc main_arg2) ↦{fullShare} m ((c : Thread nD τ).loc main_arg2)

omit [FloatOps F] in
theorem self_no_duty (c : Dev nD) : payers c (.send c) = ∅ ∧ payers c (.recv c) = ∅ := ⟨if_pos rfl, if_pos rfl⟩

/-- Nothing is ever due on a device's own send and receive counters. -/
theorem self_never (c : Dev nD) (s : SemLoc sig) (h : payers c (role s) = ∅) (r : ℕ) (_ : 0 ≤ r) :
    (plan (F := F) m).duties ((c : Thread nD τ), s) r = ∅ := by
  rcases r with _ | r
  · rw [duties_tc, h]
  · exact duties_later m _ _ (Nat.succ_pos r)

/-- The places of a device's counters: those it waits on, and its own send and receive counters. -/
theorem places_split (c : Dev nD) : (places c : sProp 𝕄) ⊢ iprop(atHold c ∗ atPos EX (sendCell c c) 0 ∅ 0 ∗ atPos EX (recvCell c c) 0 ∅ 0) := by
  unfold places atHold
  rw [bigSep_cells, bigSep_univ_at (fun p : Dev nD => (atPos EX (cellAt (c, ixSend p)) 0 ∅ 0 : sProp 𝕄)) c,
    bigSep_univ_at (fun p : Dev nD => (atPos EX (cellAt (c, ixRecv p)) 0 ∅ 0 : sProp 𝕄)) c]
  iintro ⟨HB, HX, ⟨Hs, HS⟩, ⟨Hr, HR⟩⟩
  isplitl [HB HX HS HR]
  · isplitl [HB]; · iexact HB
    isplitl [HX]; · iexact HX
    isplitl [HS]; · iexact HS
    iexact HR
  isplitl [Hs]; · iexact Hs
  iexact Hr

/-- What every device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ opened m c)
      ⊢ |={Set.univ}=> iprop(start m c ∗ restPt m c) := by
  rw [Pipeline.unscopedRestP_none, unscopedRest0_eq]
  unfold opened start selfZero
  iintro ⟨Hm, Hlev, Hcr, -, ⟨%K, #HK⟩, Hpl, Hpay⟩
  ihave Hc := (cred_start (F := F) c) $$ Hcr
  ihave Hp := (places_split (F := F) c) $$ Hpl
  icases Hp with ⟨Hat, HaS, HaR⟩
  imod (Rounds.cell_close EX (plan m) (Set.mem_univ (K (c, ixSend c))) (fun h => h) (R := 0)
    (self_never m c (.dma (sendS c)) (by rw [role_send]; exact (self_no_duty c).1))) $$ [HaS] with HzS
  · isplitr; · iapply (known_inv m K c (ixSend c)); iexact HK
    iexact HaS
  imod (Rounds.cell_close EX (plan m) (Set.mem_univ (K (c, ixRecv c))) (fun h => h) (R := 0)
    (self_never m c (.dma (recvS c)) (by rw [role_recv]; exact (self_no_duty c).2))) $$ [HaR] with HzR
  · isplitr; · iapply (known_inv m K c (ixRecv c)); iexact HK
    iexact HaR
  imodintro
  isplitr [Hm]
  · isplitl [Hlev]
    · iexists K
      unfold facts
      isplitr; · iexact HK
      iexact Hlev
    isplitl [Hpay]; · iexact Hpay
    isplitl [Hat]; · iexact Hat
    isplitl [Hc]; · iexact Hc
    isplitl [HzS]; · iexact HzS
    iexact HzR
  iexact Hm

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 ownSem c ∗ Pipeline.scopedRest cfg0.spec c) := by
  rw [show (dats m 0 c).Φ (Fin.last cfg0.N) = after m c from rfl, scopedRest0_eq, ownSems0_eq, unscopedSems0_eq,
    bigSep_univ_at (fun p : Dev nD => (semVal (sendCell c p) 0 : sProp 𝕄)) c, bigSep_univ_at (fun p : Dev nD => (semVal (recvCell c p) 0 : sProp 𝕄)) c]
  unfold after zeros selfZero
  rw [bigSep_sep' (peers c) (fun p => (semVal (recvCell c p) 0 : sProp 𝕄))]
  iintro ⟨Hr, HzB, HzX, ⟨HzR, HzS⟩, Hs, Hv⟩
  isplitl [HzB]; · iexact HzB
  isplitr [Hr]
  · isplitl [HzX]; · iexact HzX
    isplitl [Hs HzS]
    · isplitl [Hs]; · iexact Hs
      iexact HzS
    isplitl [Hv]; · iexact Hv
    iexact HzR
  iexists (allParts m); iexact Hr

/-- The staging's own waits are on counters that nobody else raises. -/
theorem waits (c : Dev nD) : (levAts L lv : sProp 𝕄) ⊢ Pipeline.cellsWaits cfgs (dats m) () 0 c :=
  Pipeline.cellsWaits_intro cfgs (dats m) () 0 c fun w s t => by
    have hs : rank (role (.dma ((cfg0.win w).sem s))) = 0 := by fin_cases w <;> fin_cases s <;> decide
    rcases t with ⟨_ | _, ht⟩
    · exact mayWait_start c _ hs
    · show _ ⊢ MayWait (c : Thread nD τ) _ () 0
      rw [MayWait_zero]
      iintro -; iempintro

/-! ## The run -/

/-- What the arrays hold at the end. -/
def finalA (c : Dev nD) (w : Fin cfg0.W) : Buf (Elt F) ((cfg0.win w).arr.view.loc (c : Thread nD τ)) := (dats m 0 c).arrAt w cfg0.N

/-- The staged arrays at their final contents, the other argument as launched. -/
def Ends : PUnit × MemSt nD τ sig (Elt F) → Prop := fun r =>
  ∀ c : Dev nD, (∀ w : Fin cfg0.W, r.2.mem ((cfg0.win w).arr.view.loc (c : Thread nD τ)) = finalA m c w)
    ∧ r.2.mem ((c.tc : Thread nD τ).loc main_arg2) = m ((c.tc : Thread nD τ).loc main_arg2)

/-- What is read off a device at the end besides its staged arrays. -/
theorem read_rest (c : Dev nD) (s' : Phys nD τ sig (Elt F)) :
    iprop(unscopedSems0 c ∗ restPt m c ∗ SI s') ⊢ (|={Set.univ}=> iprop(⌜(∀ sm : SemLoc sig, sm.isScoped .tc = false → s'.mem.sem ((c.tc : Thread nD τ), sm) = 0)
      ∧ s'.mem.mem ((c.tc : Thread nD τ).loc main_arg2) = m ((c.tc : Thread nD τ).loc main_arg2)⌝ ∗ SI s') : sProp 𝕄) := by
  iintro ⟨Hu, Hm, HSI⟩
  imod (Pipeline.unscopedSems0_read (X := unscopedSems0 c) (c := c) fupd_intro s') $$ [Hu HSI] with ⟨%hu, HSI⟩
  · isplitl [Hu] <;> iassumption
  icombine HSI Hm gives %hm
  imodintro
  isplitr
  · ipureintro; exact ⟨hu, Buf.eq_of_forall_mem_univ hm⟩
  iexact HSI

set_option maxRecDepth 8000 in
/-- From any memory with every counter at zero, every fair execution on the sixteen devices ends, with the arrays at
    their final contents and every counter at zero. -/
theorem run_main : θ_run defs (onTc (τ := τ) (main (F := F))) (⟨m, fun _ => 0, ρ⟩ : MemSt nD τ sig (Elt F)) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := opened m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := open_all m)
    (hA := fun _ _ => rfl) (hpf := fun _ k => k.elim0)
    (X := start m) (Y := fun c => unscopedSems0 c) (Z := restPt m)
    (hX := start_intro m ρ) (hin := enter m) (hout := leave m)
    (QY := fun c s => (∀ sm : SemLoc sig, sm.isScoped .tc = false → s.sem ((c.tc : Thread nD τ), sm) = 0)
      ∧ s.mem ((c.tc : Thread nD τ).loc main_arg2) = m ((c.tc : Thread nD τ).loc main_arg2))
    (hY := read_rest m)
    (hQ := fun _ h hs => ⟨fun c => ⟨(h c).1, (h c).2.2.2⟩, sem_eq_zero hs fun c => (h c).2.2.1⟩)

end Cert.KernelIdeal.Exchange

end
-- ==== Proof.ArraysKI.lean ====
/-
What the arrays hold at the end: the arguments what they held, the result the two rows of sums.
-/
module

public import proofs.«01_k».proof.Proof.LaunchKI
public import Idealize.ShloMosaic.Lib.Pipeline.Value

@[expose] public section

noncomputable section

namespace Cert.KernelIdeal.Exchange

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## A window's one block is its array -/

/-- An index of the first argument's block is that index of the array; -/
theorem emb_x (y : S1024x1024.Idx) : (win0_0.blk (0 : Fin 1)).view.emb y = y :=
  funext fun a => Fin.ext (Pipeline.Window.rect_emb_val_of_index_zero win0_0 (0 : Fin 1) a rfl y)
/-- of the second's likewise, -/
theorem emb_y (y : S1024x1024.Idx) : (win0_1.blk (0 : Fin 1)).view.emb y = y :=
  funext fun a => Fin.ext (Pipeline.Window.rect_emb_val_of_index_zero win0_1 (0 : Fin 1) a rfl y)
/-- and of the result's. -/
theorem emb_out (y : S2x1024.Idx) : (win0_2.blk (0 : Fin 1)).view.emb y = y :=
  funext fun a => Fin.ext (Pipeline.Window.rect_emb_val_of_index_zero win0_2 (0 : Fin 1) a rfl y)

/-- What is staged of the first argument is the device's array; -/
theorem xStg_eq (c : Dev nD) : xStg m c = m ((c.tc : Thread nD τ).loc main_arg0) :=
  funext fun y => congrArg (m ((c.tc : Thread nD τ).loc main_arg0)) (emb_x y)
/-- of the second too. -/
theorem yStg_eq (c : Dev nD) : yStg m c = m ((c.tc : Thread nD τ).loc main_arg1) :=
  funext fun y => congrArg (m ((c.tc : Thread nD τ).loc main_arg1)) (emb_y y)

/-! ## The arrays at the end -/

/-- The first argument is never written; -/
theorem finalA_x (c : Dev nD) : finalA m c (0 : Fin 3) = m ((c.tc : Thread nD τ).loc main_arg0) := (dats m 0 c).arrAt_in (0 : Fin 3) rfl _
/-- nor is the second. -/
theorem finalA_y (c : Dev nD) : finalA m c (1 : Fin 3) = m ((c.tc : Thread nD τ).loc main_arg1) := (dats m 0 c).arrAt_in (1 : Fin 3) rfl _
/-- The result ends at the two rows of sums. -/
theorem finalA_out (c : Dev nD) : finalA m c (2 : Fin 3) = total m :=
  (dats m 0 c).arrAt_eq_of_cover (2 : Fin 3) (total m)
    (fun t _ => by
      obtain rfl : t = (0 : Fin 1) := Subsingleton.elim (α := Fin 1) t 0
      funext y
      exact (congrArg (total m) (emb_out y)).symm)
    fun i => ⟨(0 : Fin 1), flush0_2 _, by
      have h := View.emb_mem_set (win0_2.blk (0 : Fin 1)).view i
      rwa [emb_out i] at h⟩

/-- From any memory with every counter at zero, every fair execution on the sixteen devices ends; on every device the
    result array holds the two rows of sums and the arguments are as they were, and every counter is at zero. -/
theorem run_arrays : θ_run defs (onTc (τ := τ) (main (F := F))) (⟨m, fun _ => 0, ρ⟩ : MemSt nD τ sig (Elt F)) (fun r =>
    (∀ c : Dev nD, r.2.mem ((c.tc : Thread nD τ).loc main_v1) = total m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun r h => ⟨fun c => ⟨((h.1 c).1 (2 : Fin 3)).trans (finalA_out m c),
      ((h.1 c).1 (0 : Fin 3)).trans (finalA_x m c), ((h.1 c).1 (1 : Fin 3)).trans (finalA_y m c), (h.1 c).2⟩, h.2⟩)
    (run_main m ρ)

end Cert.KernelIdeal.Exchange

end
-- ==== Proof.RefRun.lean ====
/-
The reference on its one device: its operations in order, the array they leave, and its run from any memory.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Exec

open Cert.ReferenceIdeal Cert.ReferenceIdeal.Gen
open Idealize.ShloMosaic Idealize.ShloMosaic.TcCoe Idealize.ShloMosaic.StableHlo Idealize.SL.Sem

variable {F : FTy → Type} [FloatOps F]

/-! ## What the reference computes, as arrays -/

/-- A zero, as a tensor of no axis. -/
abbrev zero : FVec F S_ .f32 := constant S_ .f32 0x00000000#32
/-- The row length, 1024, as a tensor of no axis. -/
abbrev len : FVec F S_ .f32 := constant S_ .f32 0x44800000#32
/-- A tensor of no axis, repeated down one column. -/
abbrev repeated {α : Type} (v : S_.Idx → α) : S16384x1.Idx → α := broadcastInDim S16384x1 ![] bcast_S_S16384x1 v
/-- One column, repeated along every row. -/
abbrev across {α : Type} (v : S16384x1.Idx → α) : S16384x1024.Idx → α := broadcastInDim S16384x1024 ![0, 1] bcast_S16384x1_S16384x1024_0_1 v
/-- The sums of an array's rows, as one column. -/
abbrev rowSums (x : FVec F S16384x1024 .f32) : FVec F S16384x1 .f32 :=
  broadcastInDim S16384x1 ![0] bcast_S16384_S16384x1_0 (Host.reduceAdd x zero reducesTo_S16384x1024_S16384_d1 h_S_)
/-- The sums of an array's columns, as one row. -/
abbrev colSums (x : FVec F S16384x1024 .f32) : FVec F S1x1024 .f32 :=
  broadcastInDim S1x1024 ![1] bcast_S1024_S1x1024_1 (Host.reduceAdd x zero reducesTo_S16384x1024_S1024_d0 h_S_)

/-- The mean of each row. -/
def means (x : FVec F S16384x1024 .f32) : FVec F S16384x1 .f32 := Host.divf (rowSums x) (repeated len)
/-- Each element's distance from its row's mean. -/
def centred (x : FVec F S16384x1024 .f32) : FVec F S16384x1024 .f32 := subf x (across (means x))
/-- The divisor of the variance: the row length less the integer nought. -/
def divisor : FVec F S_ .f32 := subf len (sitofp .f32 (constantI S_ 32 0#32))
/-- The variance of each row, where the divisor is positive. -/
def variances (x : FVec F S16384x1024 .f32) : FVec F S16384x1 .f32 :=
  select (repeated (cmpf .ogt (divisor (F := F)) zero)) (Host.divf (rowSums (mulf (centred x) (centred x))) (repeated divisor))
    (repeated (constant S_ .f32 0x7FC00000#32))
/-- One over the root of the variance and the small addend. -/
def scales (x : FVec F S16384x1024 .f32) : FVec F S16384x1 .f32 :=
  Host.divf (repeated (constant S_ .f32 0x3F800000#32)) (Host.sqrt (addf (variances x) (repeated (constant S_ .f32 0x3727C5AC#32))))
/-- The normalised array. -/
def normal (x : FVec F S16384x1024 .f32) : FVec F S16384x1024 .f32 := mulf (centred x) (across (scales x))
/-- The result: the column sums of the second argument times the normalised first, over those of the second. -/
def result (x y : FVec F S16384x1024 .f32) : FVec F S2x1024 .f32 :=
  concatenate S2x1024 0 [⟨S1x1024, colSums (mulf y (normal x))⟩, ⟨S1x1024, colSums y⟩] concatenates_S1x1024_S1x1024_S2x1024_d0

/-! ## The run -/

/-- The operations, in order, those of the called functions in their place. -/
abbrev ops : List (HloOp τ sig (Elt F)) :=
  [ nullary main_cst (constant S_ .f32 0x00000000#32),
    binary main_arg0 main_cst main_v0 (fun x v => Host.reduceAdd x v reducesTo_S16384x1024_S16384_d1 h_S_),
    unary main_v0 main_v1 (broadcastInDim S16384x1 ![0] bcast_S16384_S16384x1_0),
    nullary main_cst_0 (constant S_ .f32 0x44800000#32),
    unary main_cst_0 main_v2 (broadcastInDim S16384x1 ![] bcast_S_S16384x1),
    binary main_v1 main_v2 main_v3 Host.divf,
    nullary main_c (constantI S_ 32 0#32),
    TRef.nullary main_call0.cst (constant S_ .f32 0x00000000#32),
    TRef.binary (.of main_arg0) main_call0.cst main_call0.v0 (fun x v => Host.reduceAdd x v reducesTo_S16384x1024_S16384_d1 h_S_),
    TRef.unary main_call0.v0 main_call0.v1 (broadcastInDim S16384x1 ![0] bcast_S16384_S16384x1_0),
    TRef.nullary main_call0.cst_0 (constant S_ .f32 0x44800000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x1024 ![0, 1] bcast_S16384x1_S16384x1024_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x44800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x1024_S16384_d1 h_S_),
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16384x1 ![] bcast_S_S16384x1),
    TRef.ternary main_call0.v13 main_call0.v12 main_call0.call0.v1 main_call0.call0.v2 (fun p a b => select (broadcastInDim S16384x1 ![] bcast_S_S16384x1 p) a b),
    nullary main_cst_1 (constant S_ .f32 0x3727C5AC#32),
    unary main_cst_1 main_v5 (broadcastInDim S16384x1 ![] bcast_S_S16384x1),
    binary main_v4 main_v5 main_v6 addf,
    unary main_v6 main_v7 Host.sqrt,
    nullary main_cst_2 (constant S_ .f32 0x3F800000#32),
    unary main_cst_2 main_v8 (broadcastInDim S16384x1 ![] bcast_S_S16384x1),
    binary main_v8 main_v7 main_v9 Host.divf,
    unary main_v3 main_v10 (broadcastInDim S16384x1024 ![0, 1] bcast_S16384x1_S16384x1024_0_1),
    binary main_arg0 main_v10 main_v11 subf,
    unary main_v9 main_v12 (broadcastInDim S16384x1024 ![0, 1] bcast_S16384x1_S16384x1024_0_1),
    binary main_v11 main_v12 main_v13 mulf,
    binary main_arg1 main_v13 main_v14 mulf,
    nullary main_cst_3 (constant S_ .f32 0x00000000#32),
    binary main_v14 main_cst_3 main_v15 (fun x v => Host.reduceAdd x v reducesTo_S16384x1024_S1024_d0 h_S_),
    nullary main_cst_4 (constant S_ .f32 0x00000000#32),
    binary main_arg1 main_cst_4 main_v16 (fun x v => Host.reduceAdd x v reducesTo_S16384x1024_S1024_d0 h_S_),
    unary main_v15 main_v17 (broadcastInDim S1x1024 ![1] bcast_S1024_S1x1024_1),
    unary main_v16 main_v18 (broadcastInDim S1x1024 ![1] bcast_S1024_S1x1024_1),
    binary main_v17 main_v18 main_v19 (fun a b => concatenate S2x1024 0 [⟨S1x1024, a⟩, ⟨S1x1024, b⟩] concatenates_S1x1024_S1x1024_S2x1024_d0) ]

/-- The program is that straight line. -/
theorem main_eq (c : Dev nD) : main (F := F) c = seq ops := by
  simp only [main, fn_var.body, fn_where.body, seq, bind_assoc, pure_bind]
  rfl

/-- What the operations leave in the result; -/
theorem out_eq (V : Valuation τ sig (Elt F)) :
    after ops V (main_v19 : DevRef τ sig) = result (V (main_arg0 : DevRef τ sig)) (V (main_arg1 : DevRef τ sig)) := by
  after_results_simp
  rfl
/-- the first argument stays, -/
theorem arg0_eq (V : Valuation τ sig (Elt F)) : after ops V (main_arg0 : DevRef τ sig) = V (main_arg0 : DevRef τ sig) := by
  simp only [after_cons, after_nil]; rfl
/-- the second too, -/
theorem arg1_eq (V : Valuation τ sig (Elt F)) : after ops V (main_arg1 : DevRef τ sig) = V (main_arg1 : DevRef τ sig) := by
  simp only [after_cons, after_nil]; rfl
/-- and the third. -/
theorem arg2_eq (V : Valuation τ sig (Elt F)) : after ops V (main_arg2 : DevRef τ sig) = V (main_arg2 : DevRef τ sig) := by
  simp only [after_cons, after_nil]; rfl

/-- No buffer is scoped; -/
theorem no_scoped_refs : (Finset.univ.filter fun b : Ref sig .tc => b.isScoped) = ∅ := by decide
/-- no semaphore either. -/
theorem no_scoped_sems : (Finset.univ.filter fun sm : SemLoc sig => sm.isScoped .tc) = ∅ := by decide

/-- Every operation names buffers of the device. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    binary_bufs_sub .., unary_bufs_sub .., binary_bufs_sub .., unary_bufs_sub .., binary_bufs_sub .., binary_bufs_sub ..,
    nullary_bufs_sub .., binary_bufs_sub .., nullary_bufs_sub .., binary_bufs_sub .., unary_bufs_sub .., unary_bufs_sub ..,
    binary_bufs_sub ..⟩

/-- From any memory with every counter at zero, every fair execution of the reference ends, with the result array
    computed from the arguments, the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v19)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v19).trans (out_eq _), (h c main_arg0).trans (arg0_eq _),
      (h c main_arg1).trans (arg1_eq _), (h c main_arg2).trans (arg2_eq _)⟩, sem_eq_zero_of_no_sems (by decide) r.2⟩)
    (run_seq no_scoped_refs no_scoped_sems defs main (fun _ => ops) main_eq (fun _ => ops_sub) m ρ)

end Cert.ReferenceIdeal.Exec

end
-- ==== Proof.Moments.lean ====
/-
The arithmetic of one row of 1024 extended reals: its mean, its variance, the factor it is scaled by; and the two ways
of writing that factor.
-/
module

public import Idealize.ShloMosaic.PureOps.Ideal.Laws
public import Idealize.ShloMosaic.Lib.IdealHost

@[expose] public section

noncomputable section

namespace Cert.Moments

open Idealize.ShloMosaic

/-! ## The constants -/

/-- The length of a row, as the programs spell it. -/
def len : EReal := Ideal.ofBits .f32 0x44800000#32
/-- The small addend under the root, as the programs spell it. -/
def eps : EReal := Ideal.ofBits .f32 0x3727C5AC#32

/-- The length is the real 1024; -/
theorem len_eq : len = ((1024 : ℝ) : EReal) := by
  unfold len
  simp [Ideal.ofBits, Ideal.ieee, -EReal.coe_mul]; norm_num
/-- it is positive. -/
theorem len_pos : 0 < len := by rw [len_eq]; exact EReal.coe_pos.2 (by norm_num)
/-- The addend is not negative. -/
theorem eps_nonneg : 0 ≤ eps := by
  unfold eps
  simp [Ideal.ofBits, Ideal.ieee, -EReal.coe_mul]

/-! ## A row -/

/-- The mean of a row; -/
def mean (v : Fin 1024 → EReal) : EReal := Ideal.div (∑ k, v k) len
/-- an element's distance from it; -/
def off (v : Fin 1024 → EReal) (k : Fin 1024) : EReal := v k - mean v
/-- the mean of the squared distances; -/
def var (v : Fin 1024 → EReal) : EReal := Ideal.div (∑ k, off v k * off v k) len
/-- the normalised element. -/
def unit (v : Fin 1024 → EReal) (k : Fin 1024) : EReal := off v k * Ideal.rsqrt (var v + eps)

/-- A square is not negative. -/
theorem square_nonneg (x : EReal) : 0 ≤ x * x := by
  rcases le_total 0 x with h | h
  · exact mul_nonneg h h
  · rw [← neg_mul_neg]
    exact mul_nonneg (EReal.neg_nonneg.2 h) (EReal.neg_nonneg.2 h)

/-- A quotient of what is not negative by the length is not negative. -/
theorem div_len_nonneg {x : EReal} (h : 0 ≤ x) : 0 ≤ Ideal.div x len := by
  unfold Ideal.div
  rw [if_neg len_pos.ne']
  exact mul_nonneg h (EReal.inv_nonneg_of_nonneg len_pos.le)

/-- What the root is taken of is not negative. -/
theorem under_nonneg (v : Fin 1024 → EReal) : 0 ≤ var v + eps :=
  add_nonneg (div_len_nonneg (Finset.sum_nonneg fun k _ => square_nonneg _)) eps_nonneg

/-- One over the root of what is not negative is its reciprocal root, at nought and at infinity too. -/
theorem one_div_sqrt {x : EReal} (h : 0 ≤ x) : Ideal.div 1 (Ideal.sqrt x) = Ideal.rsqrt x := by
  induction x with
  | bot => exact absurd h (by simp)
  | top =>
    have e₁ : Ideal.sqrt ⊤ = ⊤ := rfl
    have e₂ : Ideal.rsqrt ⊤ = 0 := rfl
    rw [e₁, e₂, Ideal.div, if_neg EReal.top_ne_zero, EReal.inv_top, mul_zero]
  | coe r =>
    have hr : 0 ≤ r := EReal.coe_nonneg.1 h
    have e₁ : Ideal.sqrt (r : EReal) = if r < 0 then ⊥ else (Real.sqrt r : EReal) := rfl
    have e₂ : Ideal.rsqrt (r : EReal) = if r < 0 then ⊥ else if r = 0 then ⊤ else (((Real.sqrt r)⁻¹ : ℝ) : EReal) := rfl
    rw [e₁, e₂, if_neg (not_lt.2 hr), if_neg (not_lt.2 hr), Ideal.div]
    by_cases h0 : r = 0
    · subst h0
      simp
    · have hs : Real.sqrt r ≠ 0 := (Real.sqrt_pos.2 (lt_of_le_of_ne hr (Ne.symm h0))).ne'
      rw [if_neg h0, if_neg (EReal.coe_ne_zero.2 hs), one_mul, EReal.coe_inv]

end Cert.Moments

end
-- ==== Proof.BlockValue.lean ====
/-
What one device computes of its own block: the two rows of partial sums, at an index, in terms of the block's rows.
-/
module

public import proofs.«01_k».proof.Proof.Gen.KernelIdeal.Skeleton
public import proofs.«01_k».proof.Proof.Moments
public import Idealize.ShloMosaic.Lib.ValueIdx
public import Idealize.ShloMosaic.Lib.ValueIdxCoords
public import Idealize.ShloMosaic.Lib.Pipeline.Value

@[expose] public section

noncomputable section

namespace Cert.KernelIdeal.Value

open Cert.KernelIdeal Cert.KernelIdeal.Gen Cert.Moments
open Idealize.ShloMosaic Idealize.ShloMosaic.ValueIdx

/-! ## The pieces, as arrays -/

/-- The sums of a block's rows, as one column. -/
def rowSums (x : FVec Ideal S1024x1024 .f32) : FVec Ideal S1024x1 .f32 :=
  shapeCast S1024x1 (multiReduction .add [1] S1024 x 0x00000000#32 reduces_S1024x1024_S1024 (.inl rfl) rfl) shapeCasts_S1024_S1024x1
/-- The sums of a block's columns, as one row. -/
def colSums (x : FVec Ideal S1024x1024 .f32) : FVec Ideal S1x1024 .f32 :=
  shapeCast S1x1024 (multiReduction .add [0] S1024 x 0x00000000#32 reduces_S1024x1024_S1024_2 (.inl rfl) rfl) shapeCasts_S1024_S1x1024
/-- One column, repeated along every row. -/
def across (v : FVec Ideal S1024x1 .f32) : FVec Ideal S1024x1024 .f32 := broadcastTo S1024x1024 v broadcasts_S1024x1_S1024x1024
/-- One column, each element divided by the row length. -/
def perLen (v : FVec Ideal S1024x1 .f32) : FVec Ideal S1024x1 .f32 := divf v (broadcast S1024x1 (Scalar.ofBits .f32 0x44800000#32))
/-- Each element's distance from its row's mean. -/
def centred (x : FVec Ideal S1024x1024 .f32) : FVec Ideal S1024x1024 .f32 := subf x (across (perLen (rowSums x)))
/-- The reciprocal root of each row's variance and the small addend. -/
def scales (x : FVec Ideal S1024x1024 .f32) : FVec Ideal S1024x1 .f32 :=
  rsqrt (addf (perLen (rowSums (mulf (centred x) (centred x)))) (broadcast S1024x1 (Scalar.ofBits .f32 0x3727C5AC#32)))
/-- The normalised block. -/
def normal (x : FVec Ideal S1024x1024 .f32) : FVec Ideal S1024x1024 .f32 := mulf (centred x) (across (scales x))
/-- The two rows of partial sums. -/
def twoRows (x y : FVec Ideal S1024x1024 .f32) : FVec Ideal S2x1024 .f32 :=
  concatenate S2x1024 0 [⟨S1x1024, colSums (mulf y (normal x))⟩, ⟨S1x1024, colSums y⟩] concatenates_S1x1024_S1x1024_S2x1024_d0

/-- What the device puts in its slot is these two rows. -/
theorem pay1_eq (x y : FVec Ideal S1024x1024 .f32) : k0_pay1 (F := Ideal) x y = shapeCast S1x2x1024 (twoRows x y) shapeCasts_S2x1024_S1x2x1024 := by
  show shapeCast S1x2x1024 (shapeCast S1x2x1024 (twoRows (shapeCast S1024x1024 x shapeCasts_S1024x1024_S1024x1024)
      (shapeCast S1024x1024 y shapeCasts_S1024x1024_S1024x1024)) shapeCasts_S2x1024_S1x2x1024) shapeCasts_S1x2x1024_S1x2x1024 = _
  rw [shapeCast_self, shapeCast_self, shapeCast_self]

/-! ## The pieces, at an index -/

/-- Row `r` of a block. -/
def row (x : FVec Ideal S1024x1024 .f32) (r : Fin 1024) : Fin 1024 → EReal := fun k => x (ix2 r k)

/-- A row's sum; -/
theorem rowSums_apply (x : FVec Ideal S1024x1024 .f32) (r : Fin 1024) : rowSums x (ix2 r 0) = ∑ k, row x r k := by
  unfold rowSums
  rw [shapeCast_apply _ _ (ix2 r 0) (ix1 r) (by rw [Shape.rowMajor_val_one, Shape.rowMajor_val_two]; simp)]
  refine (Ideal.multiReduction_add_single _ _ _ _ _ _).trans ?_
  exact Finset.sum_congr rfl fun k _ => congrArg x (funext fun a => by match a with | ⟨0, _⟩ => rfl | ⟨1, _⟩ => rfl)
/-- a column's sum; -/
theorem colSums_apply (x : FVec Ideal S1024x1024 .f32) (k : Fin 1024) : colSums x (ix2 0 k) = ∑ r : Fin 1024, x (ix2 r k) := by
  unfold colSums
  rw [shapeCast_apply _ _ (ix2 0 k) (ix1 k) (by rw [Shape.rowMajor_val_one, Shape.rowMajor_val_two]; simp)]
  refine (Ideal.multiReduction_add_single _ _ _ _ _ _).trans ?_
  exact Finset.sum_congr rfl fun r _ => congrArg x (funext fun a => by match a with | ⟨0, _⟩ => rfl | ⟨1, _⟩ => rfl)
/-- a repeated column; -/
theorem across_apply (v : FVec Ideal S1024x1 .f32) (r k : Fin 1024) : across v (ix2 r k) = v (ix2 r 0) :=
  broadcastTo_apply _ _ _ _ fun a => by match a with | ⟨0, _⟩ => rfl | ⟨1, _⟩ => rfl
/-- the distance from the mean; -/
theorem centred_apply (x : FVec Ideal S1024x1024 .f32) (r k : Fin 1024) : centred x (ix2 r k) = off (row x r) k := by
  unfold centred
  rw [subf_apply, across_apply]
  unfold perLen
  rw [divf_apply, rowSums_apply]
  rfl
/-- the reciprocal root; -/
theorem scales_apply (x : FVec Ideal S1024x1024 .f32) (r : Fin 1024) : scales x (ix2 r 0) = Ideal.rsqrt (var (row x r) + eps) := by
  have h : perLen (rowSums (mulf (centred x) (centred x))) (ix2 r 0) = var (row x r) := by
    unfold perLen
    rw [divf_apply, rowSums_apply]
    refine congrArg (fun s => Ideal.div s len) (Finset.sum_congr rfl fun k _ => ?_)
    show centred x (ix2 r k) * centred x (ix2 r k) = _
    rw [centred_apply]
  show Ideal.rsqrt (perLen (rowSums (mulf (centred x) (centred x))) (ix2 r 0) + eps) = _
  rw [h]
/-- the normalised element; -/
theorem normal_apply (x : FVec Ideal S1024x1024 .f32) (r k : Fin 1024) : normal x (ix2 r k) = unit (row x r) k := by
  unfold normal
  rw [mulf_apply, across_apply, centred_apply, scales_apply]
  rfl

/-- The first of the two rows holds the column sums of the second block times the normalised first, -/
theorem pay1_first (x y : FVec Ideal S1024x1024 .f32) (k : Fin 1024) :
    k0_pay1 (F := Ideal) x y (ix3 0 0 k) = ∑ r : Fin 1024, y (ix2 r k) * unit (row x r) k := by
  rw [pay1_eq, shapeCast_apply _ _ (ix3 0 0 k) (ix2 0 k) (by rw [Shape.rowMajor_val_two, Shape.rowMajor_val_three]; simp)]
  unfold twoRows
  refine (concatenate_pair_apply_left (t := S2x1024) (s₁ := S1x1024) (s₂ := S1x1024) (0 : Fin 2) _ _ _ (ix2 0 k) rfl (ix2 0 k) fun b => ?_).trans ?_
  · match b with | ⟨0, _⟩ => rfl | ⟨1, _⟩ => rfl
  rw [colSums_apply]
  exact Finset.sum_congr rfl fun r _ => by rw [mulf_apply, normal_apply]
/-- the second those of the second block. -/
theorem pay1_second (x y : FVec Ideal S1024x1024 .f32) (k : Fin 1024) :
    k0_pay1 (F := Ideal) x y (ix3 0 1 k) = ∑ r : Fin 1024, y (ix2 r k) := by
  rw [pay1_eq, shapeCast_apply _ _ (ix3 0 1 k) (ix2 1 k) (by rw [Shape.rowMajor_val_two, Shape.rowMajor_val_three]; simp)]
  unfold twoRows
  refine (concatenate_pair_apply_right (t := S2x1024) (s₁ := S1x1024) (s₂ := S1x1024) (0 : Fin 2) _ _ _ (ix2 1 k) rfl rfl (ix2 0 k)
    (fun b hb => ?_) rfl).trans (colSums_apply _ _)
  match b with | ⟨0, _⟩ => exact absurd rfl hb | ⟨1, _⟩ => rfl

/-- The sum over the sixteen slots, at an index. -/
theorem pay2_apply (v : FVec Ideal S16x2x1024 .f32) (a : Fin 2) (k : Fin 1024) :
    k0_pay2 (F := Ideal) v (ix2 a k) = ∑ p : Fin 16, v (ix3 p a k) := by
  unfold k0_pay2
  refine (Ideal.multiReduction_add_single _ _ _ _ _ _).trans ?_
  exact Finset.sum_congr rfl fun p _ => congrArg v (funext fun b => by match b with | ⟨0, _⟩ => rfl | ⟨1, _⟩ => rfl | ⟨2, _⟩ => rfl)

end Cert.KernelIdeal.Value

end
-- ==== Proof.WholeValue.lean ====
/-
What the reference computes, at an index, in terms of the rows of its arguments.
-/
module

public import proofs.«01_k».proof.Proof.RefRun
public import proofs.«01_k».proof.Proof.Moments
public import Idealize.ShloMosaic.Lib.ValueIdx
public import Idealize.ShloMosaic.Lib.ValueIdxCoords
public import Idealize.ShloMosaic.Lib.Pipeline.Value

@[expose] public section

noncomputable section

namespace Cert.ReferenceIdeal.Value

open Cert.ReferenceIdeal Cert.ReferenceIdeal.Gen Cert.ReferenceIdeal.Exec Cert.Moments
open Idealize.ShloMosaic Idealize.ShloMosaic.ValueIdx

/-- Row `r` of an array. -/
def row (x : FVec Ideal S16384x1024 .f32) (r : Fin 16384) : Fin 1024 → EReal := fun k => x (ix2 r k)

/-- Summing the second axis leaves the first; -/
theorem reduces_rows : S16384x1024.Reduces [1] S16384 := by decide
/-- summing the first leaves the second. -/
theorem reduces_cols : S16384x1024.Reduces [0] S1024 := by decide

/-- The zero is nought; -/
theorem zero_apply (j : S_.Idx) : zero (F := Ideal) j = 0 := Ideal.ofBits_zero_f32
/-- a repeated scalar; -/
theorem repeated_apply {α : Type} (v : S_.Idx → α) (j : S16384x1.Idx) : repeated v j = v ix0 := broadcastInDim_scalar_apply _ v j
/-- a repeated column; -/
theorem across_apply {α : Type} (v : S16384x1.Idx → α) (r : Fin 16384) (k : Fin 1024) : across v (ix2 r k) = v (ix2 r 0) :=
  broadcastInDim_apply _ _ _ _ _ fun a => by match a with | ⟨0, _⟩ => rfl | ⟨1, _⟩ => rfl
/-- a row's sum; -/
theorem rowSums_apply (x : FVec Ideal S16384x1024 .f32) (r : Fin 16384) : rowSums x (ix2 r 0) = ∑ k, row x r k := by
  unfold rowSums
  rw [broadcastInDim_apply _ _ _ (ix2 r 0) (ix1 r) fun a => by match a with | ⟨0, _⟩ => rfl]
  rw [hostReduceAdd_apply, Ideal.hostReduceAdd_single _ reduces_rows, zero_apply, zero_add]
  exact Finset.sum_congr rfl fun k _ => congrArg x (funext fun a => by match a with | ⟨0, _⟩ => rfl | ⟨1, _⟩ => rfl)
/-- a column's sum. -/
theorem colSums_apply (x : FVec Ideal S16384x1024 .f32) (k : Fin 1024) : colSums x (ix2 0 k) = ∑ r : Fin 16384, x (ix2 r k) := by
  unfold colSums
  rw [broadcastInDim_apply _ _ _ (ix2 0 k) (ix1 k) fun a => by match a with | ⟨0, _⟩ => rfl]
  rw [hostReduceAdd_apply, Ideal.hostReduceAdd_single _ reduces_cols, zero_apply, zero_add]
  exact Finset.sum_congr rfl fun r _ => congrArg x (funext fun a => by match a with | ⟨0, _⟩ => rfl | ⟨1, _⟩ => rfl)

/-- The mean; -/
theorem means_apply (x : FVec Ideal S16384x1024 .f32) (r : Fin 16384) : means x (ix2 r 0) = mean (row x r) := by
  unfold means
  rw [hostDivf_apply, rowSums_apply, repeated_apply]
  rfl
/-- the distance from it; -/
theorem centred_apply (x : FVec Ideal S16384x1024 .f32) (r : Fin 16384) (k : Fin 1024) : centred x (ix2 r k) = off (row x r) k := by
  unfold centred
  rw [subf_apply, across_apply, means_apply]
  rfl
/-- the divisor of the variance is the length; -/
theorem divisor_apply : divisor (F := Ideal) ix0 = len := by
  show len - ((((0#32 : BitVec 32).toInt : ℤ) : ℝ) : EReal) = len
  simp
/-- it is positive, so the quotient is taken; -/
theorem divisor_pos (r : Fin 16384) : repeated (cmpf .ogt (divisor (F := Ideal)) zero) (ix2 r 0) = 1#1 := by
  rw [repeated_apply, cmpf_apply, divisor_apply, zero_apply]
  show BitVec.ofBool (decide ((0 : EReal) < len)) = 1#1
  rw [decide_eq_true len_pos]
  rfl
/-- the variance; -/
theorem variances_apply (x : FVec Ideal S16384x1024 .f32) (r : Fin 16384) : variances x (ix2 r 0) = var (row x r) := by
  unfold variances
  rw [select_apply, divisor_pos, select_one, hostDivf_apply, rowSums_apply, repeated_apply, divisor_apply]
  refine congrArg (fun s => Ideal.div s len) (Finset.sum_congr rfl fun k _ => ?_)
  show Exec.centred x (ix2 r k) * Exec.centred x (ix2 r k) = _
  rw [centred_apply]
/-- one over the root; -/
theorem scales_apply (x : FVec Ideal S16384x1024 .f32) (r : Fin 16384) : scales x (ix2 r 0) = Ideal.rsqrt (var (row x r) + eps) := by
  have h : addf (variances x) (repeated (constant S_ .f32 0x3727C5AC#32)) (ix2 r 0) = var (row x r) + eps := by
    rw [addf_apply, variances_apply, repeated_apply]
    rfl
  rw [← one_div_sqrt (under_nonneg _), ← h]
  unfold scales
  rw [hostDivf_apply, repeated_apply, constant_apply, Ideal.ofBits_one_f32]
  rfl
/-- the normalised element. -/
theorem normal_apply (x : FVec Ideal S16384x1024 .f32) (r : Fin 16384) (k : Fin 1024) : normal x (ix2 r k) = unit (row x r) k := by
  unfold normal
  rw [mulf_apply, across_apply, centred_apply, scales_apply]
  rfl

/-- The first row of the result holds the column sums of the second argument times the normalised first, -/
theorem result_first (x y : FVec Ideal S16384x1024 .f32) (k : Fin 1024) :
    result x y (ix2 0 k) = ∑ r : Fin 16384, y (ix2 r k) * unit (row x r) k := by
  unfold result
  refine (concatenate_pair_apply_left (t := S2x1024) (s₁ := S1x1024) (s₂ := S1x1024) (0 : Fin 2) _ _ _ (ix2 0 k) rfl (ix2 0 k) fun b => ?_).trans ?_
  · match b with | ⟨0, _⟩ => rfl | ⟨1, _⟩ => rfl
  rw [colSums_apply]
  exact Finset.sum_congr rfl fun r _ => by rw [mulf_apply, normal_apply]
/-- the second row those of the second argument. -/
theorem result_second (x y : FVec Ideal S16384x1024 .f32) (k : Fin 1024) :
    result x y (ix2 1 k) = ∑ r : Fin 16384, y (ix2 r k) := by
  unfold result
  refine (concatenate_pair_apply_right (t := S2x1024) (s₁ := S1x1024) (s₂ := S1x1024) (0 : Fin 2) _ _ _ (ix2 1 k) rfl rfl (ix2 0 k)
    (fun b hb => ?_) rfl).trans (colSums_apply _ _)
  match b with | ⟨0, _⟩ => exact absurd rfl hb | ⟨1, _⟩ => rfl

end Cert.ReferenceIdeal.Value

end
-- ==== Proof.Equation.lean ====
/-
The two rows of sums that the sixteen devices end with are the two rows that the reference computes of the whole arrays.
-/
module

public import proofs.«01_k».proof.Proof.ArraysKI
public import proofs.«01_k».proof.Proof.BlockValue
public import proofs.«01_k».proof.Proof.WholeValue
public import Idealize.ShloMosaic.Lib.Layout

@[expose] public section

noncomputable section

namespace Cert.Equation

open Cert.Moments
open Idealize.ShloMosaic Idealize.ShloMosaic.TcCoe Idealize.ShloMosaic.ValueIdx

/-- A whole array: 16384 rows. -/
abbrev Whole : Type := FVec Ideal Cert.ReferenceIdeal.S16384x1024 .f32
/-- A device's block of it: 1024 rows. -/
abbrev Block : Type := FVec Ideal Cert.KernelIdeal.S1024x1024 .f32

/-- Block `c` of an array. -/
abbrev blockOf (c : Fin 16) (x : Whole) : Block := Layout.block ⟨2, ![1024, 1024]⟩ ⟨2, ![16384, 1024]⟩ 0 16 c x

/-- Row `r` of block `c`, as a row of the array. -/
def wholeRow (c : Fin 16) (r : Fin 1024) : Fin 16384 := ⟨c.val * 1024 + r.val, by omega⟩

/-- A block's element is the array's at that row; -/
theorem blockOf_apply (c : Fin 16) (x : Whole) (r k : Fin 1024) : blockOf c x (ix2 r k) = x (ix2 (wholeRow c r) k) := by
  refine congrArg x (funext fun a => ?_)
  match a with
  | ⟨0, _⟩ => rfl
  | ⟨1, _⟩ => rfl
/-- a block's row is the array's. -/
theorem blockOf_row (c : Fin 16) (x : Whole) (r : Fin 1024) :
    Cert.KernelIdeal.Value.row (blockOf c x) r = Cert.ReferenceIdeal.Value.row x (wholeRow c r) :=
  funext fun k => blockOf_apply c x r k

/-- A sum over the array's rows is the sum over the blocks of the sums over their rows. -/
theorem sum_rows (f : Fin 16384 → EReal) : ∑ R : Fin 16384, f R = ∑ c : Fin 16, ∑ r : Fin 1024, f (wholeRow c r) := by
  rw [← Fintype.sum_prod_type' fun (c : Fin 16) (r : Fin 1024) => f (wholeRow c r)]
  refine (Equiv.sum_comp (finProdFinEquiv (m := 16) (n := 1024)) f).symm.trans (Finset.sum_congr rfl fun p _ => congrArg f (Fin.ext ?_))
  show p.2.val + 1024 * p.1.val = p.1.val * 1024 + p.2.val
  omega

section
open Cert.KernelIdeal Cert.KernelIdeal.Exchange
variable (m : (ℓ : Loc nD τ sig) → Buf (Elt Ideal) ℓ) (x y : Whole)

/-- The sums, at an index: what the sixteen slots hold there, added. -/
theorem total_apply (a : Fin 2) (k : Fin 1024) : total m (ix2 a k) = ∑ p : Fin 16, part m p (ix3 0 a k) :=
  (Cert.KernelIdeal.Value.pay2_apply (allParts m) a k).trans (Finset.sum_congr rfl fun p _ =>
    congrArg (part m p) (funext fun b => by match b with | ⟨0, _⟩ => rfl | ⟨1, _⟩ => rfl | ⟨2, _⟩ => rfl))

/-- Where every device starts with its blocks of two arrays, the two rows of sums are those the reference computes of
    the arrays. -/
theorem total_eq
    (hx : ∀ c : Dev nD, m ((c.tc : Thread nD τ).loc main_arg0) = blockOf c x)
    (hy : ∀ c : Dev nD, m ((c.tc : Thread nD τ).loc main_arg1) = blockOf c y) :
    total m = Cert.ReferenceIdeal.Exec.result x y := by
  have hpart : ∀ c : Dev nD, part m c = Cert.KernelIdeal.Gen.k0_pay1 (F := Ideal) (blockOf c x) (blockOf c y) := fun c => by
    unfold part
    rw [xStg_eq, yStg_eq, hx, hy]
  funext i
  obtain ⟨a, k, rfl⟩ : ∃ (a : Fin 2) (k : Fin 1024), i = ix2 a k := ⟨i 0, i 1, eq_ix2 i⟩
  rw [total_apply]
  match a with
  | ⟨0, _⟩ =>
    refine Eq.trans ?_ (Cert.ReferenceIdeal.Value.result_first x y k).symm
    rw [sum_rows]
    refine Finset.sum_congr (M := EReal) rfl fun c _ => ?_
    rw [hpart]
    refine (Cert.KernelIdeal.Value.pay1_first _ _ k).trans (Finset.sum_congr rfl fun r _ => ?_)
    rw [blockOf_apply, blockOf_row]
  | ⟨1, _⟩ =>
    refine Eq.trans ?_ (Cert.ReferenceIdeal.Value.result_second x y k).symm
    rw [sum_rows]
    refine Finset.sum_congr (M := EReal) rfl fun c _ => ?_
    rw [hpart]
    refine (Cert.KernelIdeal.Value.pay1_second _ _ k).trans (Finset.sum_congr rfl fun r _ => ?_)
    rw [blockOf_apply]

end

end Cert.Equation

end
-- ==== Proof.lean ====
/-
The certificate: the exchange kernel runs on sixteen devices and leaves every counter at zero, read at hardware floats
and at extended reals; the reference runs; and at extended reals the kernel ends, on every device, with the two rows of
sums the reference computes of the whole arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.ArraysK
public import proofs.«01_k».proof.Proof.ArraysKI
public import proofs.«01_k».proof.Proof.RefRun
public import proofs.«01_k».proof.Proof.Equation

@[expose] public section

noncomputable section

namespace Cert.Proof

open Idealize.ShloMosaic Idealize.SL.Sem Idealize.ShloMosaic.TcCoe

/-- The kernel at hardware floats runs, leaves its arguments as they were and every counter at zero; -/
theorem kernel_quiescent : Cert.quiescent_Kernel (hKernel := Cert.Kernel.Gen.facts) := fun m g _ =>
  (θ_run _ _ _).mono (fun _ h => ⟨fun c => (h.1 c).2, h.2⟩) (Cert.Kernel.Exchange.run_arrays m g)

/-- so does it at extended reals, -/
theorem kernelIdeal_quiescent : Cert.quiescent_KernelIdeal (hKernelIdeal := Cert.KernelIdeal.Gen.facts) := fun m g _ =>
  (θ_run _ _ _).mono (fun _ h => ⟨fun c => (h.1 c).2, h.2⟩) (Cert.KernelIdeal.Exchange.run_arrays m g)

/-- and so does the reference. -/
theorem referenceIdeal_quiescent : Cert.quiescent_ReferenceIdeal (hReferenceIdeal := Cert.ReferenceIdeal.Gen.facts) :=
  fun m g _ => (θ_run _ _ _).mono (fun _ h => ⟨fun c => (h.1 c).2, h.2⟩) (Cert.ReferenceIdeal.Exec.run_main m g)

/-- At extended reals every device ends with the reference's result. -/
theorem kernel_computes_reference : Cert.algebraic_KernelIdeal_ReferenceIdeal (hKernelIdeal := Cert.KernelIdeal.Gen.facts)
    (hReferenceIdeal := Cert.ReferenceIdeal.Gen.facts) := fun m g m' g' _ hargs => by
  have e := Cert.Equation.total_eq m _ _ (fun c => (hargs c).1) (fun c => (hargs c).2.1)
  exact ⟨_, (θ_run _ _ _).mono (fun _ h c => ⟨(h.1 c).1.trans e, (h.1 c).2⟩) (Cert.KernelIdeal.Exchange.run_arrays m g),
    (θ_run _ _ _).mono (fun _ h => h.1 0) (Cert.ReferenceIdeal.Exec.run_main m' g')⟩

/-- Everything claimed. -/
theorem claim : Cert.Claim := ⟨Cert.Kernel.Gen.facts, Cert.KernelIdeal.Gen.facts, Cert.ReferenceIdeal.Gen.facts,
  kernel_quiescent, kernelIdeal_quiescent, referenceIdeal_quiescent, trivial, kernel_computes_reference⟩

end Cert.Proof

end
